-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S32x128x128 : Shape := ⟨3, ![32, 128, 128]⟩
abbrev S32 : Shape := ⟨1, ![32]⟩
abbrev S_ : Shape := ⟨0, ![]⟩
abbrev S128x128 : Shape := ⟨2, ![128, 128]⟩
abbrev S1x128x128 : Shape := ⟨3, ![1, 128, 128]⟩

abbrev nBuf : Space → Nat
  | .hbm => 5
  | .vmem => 4
  | .smem => 2
  | _ => 0

abbrev bufTy : (tb : Table) → Fin (tcTables nBuf tb) → BufTy
  | .hbm, ⟨0, _⟩ => ⟨S4096x128, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .i8⟩
  | .local _ .vmem, ⟨1, _⟩ => ⟨S4096x8192, .i8⟩
  | .local _ .vmem, ⟨2, _⟩ => ⟨S128x8192, .f32⟩
  | .local _ .vmem, ⟨3, _⟩ => ⟨S32x128x128, .i8⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_2 : BitVec 32 := 1#32
  let v6 : BitVec 32 := Scalar.muli v4 c1_i32_2
  let v7 : BitVec 32 := Scalar.addi c0_i32 v6
  v7.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v8 : BitVec 32 := Scalar.muli v2 c128_i32
  let v9 : Index := Scalar.indexCast v8
  let c0 : Index := 0#32
  ![v9.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_9 : BitVec 32 := 128#32
  let v18 : BitVec 32 := Scalar.muli v2 c128_i32_9
  let v19 : Index := Scalar.indexCast v18
  let c0_10 : Index := 0#32
  ![v19.toNat, 0]
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_13 : BitVec 32 := 1#32
  let v23 : BitVec 32 := Scalar.muli v4 c1_i32_13
  let v24 : BitVec 32 := Scalar.addi c0_i32_14 v23
  v24.toNat
def k0_off3 (d0 : Dev nD) (c1_i32_15 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v25 : BitVec 32 := Scalar.addi v2 c1_i32_15
  let c32_i32_16 : BitVec 32 := 32#32
  let v26 : BitVec 32 := Scalar.remsi v25 c32_i32_16
  let c128_i32_17 : BitVec 32 := 128#32
  let v27 : BitVec 32 := Scalar.muli v26 c128_i32_17
  let c0_i32_25 : BitVec 32 := 0#32
  ![v27.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_15 : BitVec 32 := 1#32
  let v25 : BitVec 32 := Scalar.addi v2 c1_i32_15
  let c32_i32_16 : BitVec 32 := 32#32
  let v26 : BitVec 32 := Scalar.remsi v25 c32_i32_16
  let c1_i32_21 : BitVec 32 := 1#32
  let v28 : BitVec 32 := Scalar.muli v26 c1_i32_21
  let v29 : BitVec 32 := Scalar.addi c0_i32_22 v28
  v29.toNat
def k0_off4 (d0 : Dev nD) (c31_i32_36 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v45 : BitVec 32 := Scalar.addi v2 c31_i32_36
  let c32_i32_37 : BitVec 32 := 32#32
  let v46 : BitVec 32 := Scalar.remsi v45 c32_i32_37
  let c128_i32_40 : BitVec 32 := 128#32
  let v49 : BitVec 32 := Scalar.muli v46 c128_i32_40
  let v50 : Index := Scalar.indexCast v49
  let c0_41 : Index := 0#32
  ![v50.toNat, 0]
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_46 : BitVec 32 := 1#32
  let v55 : BitVec 32 := Scalar.muli v4 c1_i32_46
  let v56 : BitVec 32 := Scalar.addi c0_i32_47 v55
  v56.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v57 : BitVec 32 := Scalar.addi v2 c2_i32
  let c32_i32_48 : BitVec 32 := 32#32
  let v58 : BitVec 32 := Scalar.remsi v57 c32_i32_48
  let c1_i32_53 : BitVec 32 := 1#32
  let v60 : BitVec 32 := Scalar.muli v58 c1_i32_53
  let v61 : BitVec 32 := Scalar.addi c0_i32_54 v60
  v61.toNat
def k0_dev6 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_77 : BitVec 32 := 1#32
  let v87 : BitVec 32 := Scalar.muli v4 c1_i32_77
  let v88 : BitVec 32 := Scalar.addi c0_i32_78 v87
  v88.toNat
def k0_dev7 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v89 : BitVec 32 := Scalar.addi v2 c3_i32
  let c32_i32_79 : BitVec 32 := 32#32
  let v90 : BitVec 32 := Scalar.remsi v89 c32_i32_79
  let c1_i32_84 : BitVec 32 := 1#32
  let v92 : BitVec 32 := Scalar.muli v90 c1_i32_84
  let v93 : BitVec 32 := Scalar.addi c0_i32_85 v92
  v93.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_108 : BitVec 32 := 1#32
  let v119 : BitVec 32 := Scalar.muli v4 c1_i32_108
  let v120 : BitVec 32 := Scalar.addi c0_i32_109 v119
  v120.toNat
def k0_dev9 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v121 : BitVec 32 := Scalar.addi v2 c4_i32
  let c32_i32_110 : BitVec 32 := 32#32
  let v122 : BitVec 32 := Scalar.remsi v121 c32_i32_110
  let c1_i32_115 : BitVec 32 := 1#32
  let v124 : BitVec 32 := Scalar.muli v122 c1_i32_115
  let v125 : BitVec 32 := Scalar.addi c0_i32_116 v124
  v125.toNat
def k0_dev10 (d0 : Dev nD) : Nat :=
  let c0_i32_140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_139 : BitVec 32 := 1#32
  let v151 : BitVec 32 := Scalar.muli v4 c1_i32_139
  let v152 : BitVec 32 := Scalar.addi c0_i32_140 v151
  v152.toNat
def k0_dev11 (d0 : Dev nD) : Nat :=
  let c0_i32_147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v153 : BitVec 32 := Scalar.addi v2 c5_i32
  let c32_i32_141 : BitVec 32 := 32#32
  let v154 : BitVec 32 := Scalar.remsi v153 c32_i32_141
  let c1_i32_146 : BitVec 32 := 1#32
  let v156 : BitVec 32 := Scalar.muli v154 c1_i32_146
  let v157 : BitVec 32 := Scalar.addi c0_i32_147 v156
  v157.toNat
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_170 : BitVec 32 := 1#32
  let v183 : BitVec 32 := Scalar.muli v4 c1_i32_170
  let v184 : BitVec 32 := Scalar.addi c0_i32_171 v183
  v184.toNat
def k0_dev13 (d0 : Dev nD) : Nat :=
  let c0_i32_178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v185 : BitVec 32 := Scalar.addi v2 c6_i32
  let c32_i32_172 : BitVec 32 := 32#32
  let v186 : BitVec 32 := Scalar.remsi v185 c32_i32_172
  let c1_i32_177 : BitVec 32 := 1#32
  let v188 : BitVec 32 := Scalar.muli v186 c1_i32_177
  let v189 : BitVec 32 := Scalar.addi c0_i32_178 v188
  v189.toNat
def k0_dev14 (d0 : Dev nD) : Nat :=
  let c0_i32_202 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_201 : BitVec 32 := 1#32
  let v215 : BitVec 32 := Scalar.muli v4 c1_i32_201
  let v216 : BitVec 32 := Scalar.addi c0_i32_202 v215
  v216.toNat
def k0_dev15 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v217 : BitVec 32 := Scalar.addi v2 c7_i32
  let c32_i32_203 : BitVec 32 := 32#32
  let v218 : BitVec 32 := Scalar.remsi v217 c32_i32_203
  let c1_i32_208 : BitVec 32 := 1#32
  let v220 : BitVec 32 := Scalar.muli v218 c1_i32_208
  let v221 : BitVec 32 := Scalar.addi c0_i32_209 v220
  v221.toNat
def k0_dev16 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_232 : BitVec 32 := 1#32
  let v247 : BitVec 32 := Scalar.muli v4 c1_i32_232
  let v248 : BitVec 32 := Scalar.addi c0_i32_233 v247
  v248.toNat
def k0_dev17 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v249 : BitVec 32 := Scalar.addi v2 c8_i32
  let c32_i32_234 : BitVec 32 := 32#32
  let v250 : BitVec 32 := Scalar.remsi v249 c32_i32_234
  let c1_i32_239 : BitVec 32 := 1#32
  let v252 : BitVec 32 := Scalar.muli v250 c1_i32_239
  let v253 : BitVec 32 := Scalar.addi c0_i32_240 v252
  v253.toNat
def k0_dev18 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_263 : BitVec 32 := 1#32
  let v279 : BitVec 32 := Scalar.muli v4 c1_i32_263
  let v280 : BitVec 32 := Scalar.addi c0_i32_264 v279
  v280.toNat
def k0_dev19 (d0 : Dev nD) : Nat :=
  let c0_i32_271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v281 : BitVec 32 := Scalar.addi v2 c9_i32
  let c32_i32_265 : BitVec 32 := 32#32
  let v282 : BitVec 32 := Scalar.remsi v281 c32_i32_265
  let c1_i32_270 : BitVec 32 := 1#32
  let v284 : BitVec 32 := Scalar.muli v282 c1_i32_270
  let v285 : BitVec 32 := Scalar.addi c0_i32_271 v284
  v285.toNat
def k0_dev20 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_294 : BitVec 32 := 1#32
  let v311 : BitVec 32 := Scalar.muli v4 c1_i32_294
  let v312 : BitVec 32 := Scalar.addi c0_i32_295 v311
  v312.toNat
def k0_dev21 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v313 : BitVec 32 := Scalar.addi v2 c10_i32
  let c32_i32_296 : BitVec 32 := 32#32
  let v314 : BitVec 32 := Scalar.remsi v313 c32_i32_296
  let c1_i32_301 : BitVec 32 := 1#32
  let v316 : BitVec 32 := Scalar.muli v314 c1_i32_301
  let v317 : BitVec 32 := Scalar.addi c0_i32_302 v316
  v317.toNat
def k0_dev22 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_325 : BitVec 32 := 1#32
  let v343 : BitVec 32 := Scalar.muli v4 c1_i32_325
  let v344 : BitVec 32 := Scalar.addi c0_i32_326 v343
  v344.toNat
def k0_dev23 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v345 : BitVec 32 := Scalar.addi v2 c11_i32
  let c32_i32_327 : BitVec 32 := 32#32
  let v346 : BitVec 32 := Scalar.remsi v345 c32_i32_327
  let c1_i32_332 : BitVec 32 := 1#32
  let v348 : BitVec 32 := Scalar.muli v346 c1_i32_332
  let v349 : BitVec 32 := Scalar.addi c0_i32_333 v348
  v349.toNat
def k0_dev24 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_356 : BitVec 32 := 1#32
  let v375 : BitVec 32 := Scalar.muli v4 c1_i32_356
  let v376 : BitVec 32 := Scalar.addi c0_i32_357 v375
  v376.toNat
def k0_dev25 (d0 : Dev nD) : Nat :=
  let c0_i32_364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v377 : BitVec 32 := Scalar.addi v2 c12_i32
  let c32_i32_358 : BitVec 32 := 32#32
  let v378 : BitVec 32 := Scalar.remsi v377 c32_i32_358
  let c1_i32_363 : BitVec 32 := 1#32
  let v380 : BitVec 32 := Scalar.muli v378 c1_i32_363
  let v381 : BitVec 32 := Scalar.addi c0_i32_364 v380
  v381.toNat
def k0_dev26 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_387 : BitVec 32 := 1#32
  let v407 : BitVec 32 := Scalar.muli v4 c1_i32_387
  let v408 : BitVec 32 := Scalar.addi c0_i32_388 v407
  v408.toNat
def k0_dev27 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v409 : BitVec 32 := Scalar.addi v2 c13_i32
  let c32_i32_389 : BitVec 32 := 32#32
  let v410 : BitVec 32 := Scalar.remsi v409 c32_i32_389
  let c1_i32_394 : BitVec 32 := 1#32
  let v412 : BitVec 32 := Scalar.muli v410 c1_i32_394
  let v413 : BitVec 32 := Scalar.addi c0_i32_395 v412
  v413.toNat
def k0_dev28 (d0 : Dev nD) : Nat :=
  let c0_i32_419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_418 : BitVec 32 := 1#32
  let v439 : BitVec 32 := Scalar.muli v4 c1_i32_418
  let v440 : BitVec 32 := Scalar.addi c0_i32_419 v439
  v440.toNat
def k0_dev29 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v441 : BitVec 32 := Scalar.addi v2 c14_i32
  let c32_i32_420 : BitVec 32 := 32#32
  let v442 : BitVec 32 := Scalar.remsi v441 c32_i32_420
  let c1_i32_425 : BitVec 32 := 1#32
  let v444 : BitVec 32 := Scalar.muli v442 c1_i32_425
  let v445 : BitVec 32 := Scalar.addi c0_i32_426 v444
  v445.toNat
def k0_dev30 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_449 : BitVec 32 := 1#32
  let v471 : BitVec 32 := Scalar.muli v4 c1_i32_449
  let v472 : BitVec 32 := Scalar.addi c0_i32_450 v471
  v472.toNat
def k0_dev31 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v473 : BitVec 32 := Scalar.addi v2 c15_i32
  let c32_i32_451 : BitVec 32 := 32#32
  let v474 : BitVec 32 := Scalar.remsi v473 c32_i32_451
  let c1_i32_456 : BitVec 32 := 1#32
  let v476 : BitVec 32 := Scalar.muli v474 c1_i32_456
  let v477 : BitVec 32 := Scalar.addi c0_i32_457 v476
  v477.toNat
def k0_dev32 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_480 : BitVec 32 := 1#32
  let v503 : BitVec 32 := Scalar.muli v4 c1_i32_480
  let v504 : BitVec 32 := Scalar.addi c0_i32_481 v503
  v504.toNat
def k0_dev33 (d0 : Dev nD) : Nat :=
  let c0_i32_488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v505 : BitVec 32 := Scalar.addi v2 c16_i32
  let c32_i32_482 : BitVec 32 := 32#32
  let v506 : BitVec 32 := Scalar.remsi v505 c32_i32_482
  let c1_i32_487 : BitVec 32 := 1#32
  let v508 : BitVec 32 := Scalar.muli v506 c1_i32_487
  let v509 : BitVec 32 := Scalar.addi c0_i32_488 v508
  v509.toNat
def k0_dev34 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_512 : BitVec 32 := 1#32
  let v535 : BitVec 32 := Scalar.muli v4 c1_i32_512
  let v536 : BitVec 32 := Scalar.addi c0_i32_513 v535
  v536.toNat
def k0_dev35 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_514 : BitVec 32 := 17#32
  let v537 : BitVec 32 := Scalar.addi v2 c17_i32_514
  let c32_i32_515 : BitVec 32 := 32#32
  let v538 : BitVec 32 := Scalar.remsi v537 c32_i32_515
  let c1_i32_520 : BitVec 32 := 1#32
  let v540 : BitVec 32 := Scalar.muli v538 c1_i32_520
  let v541 : BitVec 32 := Scalar.addi c0_i32_521 v540
  v541.toNat
def k0_dev36 (d0 : Dev nD) : Nat :=
  let c0_i32_546 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_545 : BitVec 32 := 1#32
  let v567 : BitVec 32 := Scalar.muli v4 c1_i32_545
  let v568 : BitVec 32 := Scalar.addi c0_i32_546 v567
  v568.toNat
def k0_dev37 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_547 : BitVec 32 := 18#32
  let v569 : BitVec 32 := Scalar.addi v2 c18_i32_547
  let c32_i32_548 : BitVec 32 := 32#32
  let v570 : BitVec 32 := Scalar.remsi v569 c32_i32_548
  let c1_i32_553 : BitVec 32 := 1#32
  let v572 : BitVec 32 := Scalar.muli v570 c1_i32_553
  let v573 : BitVec 32 := Scalar.addi c0_i32_554 v572
  v573.toNat
def k0_dev38 (d0 : Dev nD) : Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_578 : BitVec 32 := 1#32
  let v599 : BitVec 32 := Scalar.muli v4 c1_i32_578
  let v600 : BitVec 32 := Scalar.addi c0_i32_579 v599
  v600.toNat
def k0_dev39 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_580 : BitVec 32 := 19#32
  let v601 : BitVec 32 := Scalar.addi v2 c19_i32_580
  let c32_i32_581 : BitVec 32 := 32#32
  let v602 : BitVec 32 := Scalar.remsi v601 c32_i32_581
  let c1_i32_586 : BitVec 32 := 1#32
  let v604 : BitVec 32 := Scalar.muli v602 c1_i32_586
  let v605 : BitVec 32 := Scalar.addi c0_i32_587 v604
  v605.toNat
def k0_dev40 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_611 : BitVec 32 := 1#32
  let v631 : BitVec 32 := Scalar.muli v4 c1_i32_611
  let v632 : BitVec 32 := Scalar.addi c0_i32_612 v631
  v632.toNat
def k0_dev41 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_613 : BitVec 32 := 20#32
  let v633 : BitVec 32 := Scalar.addi v2 c20_i32_613
  let c32_i32_614 : BitVec 32 := 32#32
  let v634 : BitVec 32 := Scalar.remsi v633 c32_i32_614
  let c1_i32_619 : BitVec 32 := 1#32
  let v636 : BitVec 32 := Scalar.muli v634 c1_i32_619
  let v637 : BitVec 32 := Scalar.addi c0_i32_620 v636
  v637.toNat
def k0_dev42 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_644 : BitVec 32 := 1#32
  let v663 : BitVec 32 := Scalar.muli v4 c1_i32_644
  let v664 : BitVec 32 := Scalar.addi c0_i32_645 v663
  v664.toNat
def k0_dev43 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_646 : BitVec 32 := 21#32
  let v665 : BitVec 32 := Scalar.addi v2 c21_i32_646
  let c32_i32_647 : BitVec 32 := 32#32
  let v666 : BitVec 32 := Scalar.remsi v665 c32_i32_647
  let c1_i32_652 : BitVec 32 := 1#32
  let v668 : BitVec 32 := Scalar.muli v666 c1_i32_652
  let v669 : BitVec 32 := Scalar.addi c0_i32_653 v668
  v669.toNat
def k0_dev44 (d0 : Dev nD) : Nat :=
  let c0_i32_678 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_677 : BitVec 32 := 1#32
  let v695 : BitVec 32 := Scalar.muli v4 c1_i32_677
  let v696 : BitVec 32 := Scalar.addi c0_i32_678 v695
  v696.toNat
def k0_dev45 (d0 : Dev nD) : Nat :=
  let c0_i32_686 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_679 : BitVec 32 := 22#32
  let v697 : BitVec 32 := Scalar.addi v2 c22_i32_679
  let c32_i32_680 : BitVec 32 := 32#32
  let v698 : BitVec 32 := Scalar.remsi v697 c32_i32_680
  let c1_i32_685 : BitVec 32 := 1#32
  let v700 : BitVec 32 := Scalar.muli v698 c1_i32_685
  let v701 : BitVec 32 := Scalar.addi c0_i32_686 v700
  v701.toNat
def k0_dev46 (d0 : Dev nD) : Nat :=
  let c0_i32_711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_710 : BitVec 32 := 1#32
  let v727 : BitVec 32 := Scalar.muli v4 c1_i32_710
  let v728 : BitVec 32 := Scalar.addi c0_i32_711 v727
  v728.toNat
def k0_dev47 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_712 : BitVec 32 := 23#32
  let v729 : BitVec 32 := Scalar.addi v2 c23_i32_712
  let c32_i32_713 : BitVec 32 := 32#32
  let v730 : BitVec 32 := Scalar.remsi v729 c32_i32_713
  let c1_i32_718 : BitVec 32 := 1#32
  let v732 : BitVec 32 := Scalar.muli v730 c1_i32_718
  let v733 : BitVec 32 := Scalar.addi c0_i32_719 v732
  v733.toNat
def k0_dev48 (d0 : Dev nD) : Nat :=
  let c0_i32_744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_743 : BitVec 32 := 1#32
  let v759 : BitVec 32 := Scalar.muli v4 c1_i32_743
  let v760 : BitVec 32 := Scalar.addi c0_i32_744 v759
  v760.toNat
def k0_dev49 (d0 : Dev nD) : Nat :=
  let c0_i32_752 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_745 : BitVec 32 := 24#32
  let v761 : BitVec 32 := Scalar.addi v2 c24_i32_745
  let c32_i32_746 : BitVec 32 := 32#32
  let v762 : BitVec 32 := Scalar.remsi v761 c32_i32_746
  let c1_i32_751 : BitVec 32 := 1#32
  let v764 : BitVec 32 := Scalar.muli v762 c1_i32_751
  let v765 : BitVec 32 := Scalar.addi c0_i32_752 v764
  v765.toNat
def k0_dev50 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_776 : BitVec 32 := 1#32
  let v791 : BitVec 32 := Scalar.muli v4 c1_i32_776
  let v792 : BitVec 32 := Scalar.addi c0_i32_777 v791
  v792.toNat
def k0_dev51 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_778 : BitVec 32 := 25#32
  let v793 : BitVec 32 := Scalar.addi v2 c25_i32_778
  let c32_i32_779 : BitVec 32 := 32#32
  let v794 : BitVec 32 := Scalar.remsi v793 c32_i32_779
  let c1_i32_784 : BitVec 32 := 1#32
  let v796 : BitVec 32 := Scalar.muli v794 c1_i32_784
  let v797 : BitVec 32 := Scalar.addi c0_i32_785 v796
  v797.toNat
def k0_dev52 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_809 : BitVec 32 := 1#32
  let v823 : BitVec 32 := Scalar.muli v4 c1_i32_809
  let v824 : BitVec 32 := Scalar.addi c0_i32_810 v823
  v824.toNat
def k0_dev53 (d0 : Dev nD) : Nat :=
  let c0_i32_818 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_811 : BitVec 32 := 26#32
  let v825 : BitVec 32 := Scalar.addi v2 c26_i32_811
  let c32_i32_812 : BitVec 32 := 32#32
  let v826 : BitVec 32 := Scalar.remsi v825 c32_i32_812
  let c1_i32_817 : BitVec 32 := 1#32
  let v828 : BitVec 32 := Scalar.muli v826 c1_i32_817
  let v829 : BitVec 32 := Scalar.addi c0_i32_818 v828
  v829.toNat
def k0_dev54 (d0 : Dev nD) : Nat :=
  let c0_i32_843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_842 : BitVec 32 := 1#32
  let v855 : BitVec 32 := Scalar.muli v4 c1_i32_842
  let v856 : BitVec 32 := Scalar.addi c0_i32_843 v855
  v856.toNat
def k0_dev55 (d0 : Dev nD) : Nat :=
  let c0_i32_851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_844 : BitVec 32 := 27#32
  let v857 : BitVec 32 := Scalar.addi v2 c27_i32_844
  let c32_i32_845 : BitVec 32 := 32#32
  let v858 : BitVec 32 := Scalar.remsi v857 c32_i32_845
  let c1_i32_850 : BitVec 32 := 1#32
  let v860 : BitVec 32 := Scalar.muli v858 c1_i32_850
  let v861 : BitVec 32 := Scalar.addi c0_i32_851 v860
  v861.toNat
def k0_dev56 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_875 : BitVec 32 := 1#32
  let v887 : BitVec 32 := Scalar.muli v4 c1_i32_875
  let v888 : BitVec 32 := Scalar.addi c0_i32_876 v887
  v888.toNat
def k0_dev57 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_877 : BitVec 32 := 28#32
  let v889 : BitVec 32 := Scalar.addi v2 c28_i32_877
  let c32_i32_878 : BitVec 32 := 32#32
  let v890 : BitVec 32 := Scalar.remsi v889 c32_i32_878
  let c1_i32_883 : BitVec 32 := 1#32
  let v892 : BitVec 32 := Scalar.muli v890 c1_i32_883
  let v893 : BitVec 32 := Scalar.addi c0_i32_884 v892
  v893.toNat
def k0_dev58 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_908 : BitVec 32 := 1#32
  let v919 : BitVec 32 := Scalar.muli v4 c1_i32_908
  let v920 : BitVec 32 := Scalar.addi c0_i32_909 v919
  v920.toNat
def k0_dev59 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_910 : BitVec 32 := 29#32
  let v921 : BitVec 32 := Scalar.addi v2 c29_i32_910
  let c32_i32_911 : BitVec 32 := 32#32
  let v922 : BitVec 32 := Scalar.remsi v921 c32_i32_911
  let c1_i32_916 : BitVec 32 := 1#32
  let v924 : BitVec 32 := Scalar.muli v922 c1_i32_916
  let v925 : BitVec 32 := Scalar.addi c0_i32_917 v924
  v925.toNat
def k0_dev60 (d0 : Dev nD) : Nat :=
  let c0_i32_942 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v3 : BitVec 32 := Scalar.addi v2 c31_i32
  let c32_i32_0 : BitVec 32 := 32#32
  let v4 : BitVec 32 := Scalar.remsi v3 c32_i32_0
  let c1_i32_941 : BitVec 32 := 1#32
  let v951 : BitVec 32 := Scalar.muli v4 c1_i32_941
  let v952 : BitVec 32 := Scalar.addi c0_i32_942 v951
  v952.toNat
def k0_dev61 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_943 : BitVec 32 := 30#32
  let v953 : BitVec 32 := Scalar.addi v2 c30_i32_943
  let c32_i32_944 : BitVec 32 := 32#32
  let v954 : BitVec 32 := Scalar.remsi v953 c32_i32_944
  let c1_i32_949 : BitVec 32 := 1#32
  let v956 : BitVec 32 := Scalar.muli v954 c1_i32_949
  let v957 : BitVec 32 := Scalar.addi c0_i32_950 v956
  v957.toNat
def k0_dev62 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_973 : BitVec 32 := 31#32
  let v983 : BitVec 32 := Scalar.addi v2 c31_i32_973
  let c32_i32_974 : BitVec 32 := 32#32
  let v984 : BitVec 32 := Scalar.remsi v983 c32_i32_974
  let c1_i32_979 : BitVec 32 := 1#32
  let v986 : BitVec 32 := Scalar.muli v984 c1_i32_979
  let v987 : BitVec 32 := Scalar.addi c0_i32_980 v986
  v987.toNat
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Program.lean ====
/-
  The kernel body as a loop: the printed body writes its 31 exchange steps out one after the other; here one step is
  written once, for a step number `r` (the exchange at distance `r + 1`), and the body is shown to be the steps in
  order, between the local block's product and the waits for the outgoing transfers.
-/
module

public import proofs.«01_k».proof.Proof.Gen.KernelIdeal
public import proofs.«01_k».proof.Proof.Gen.KernelIdeal.Skeleton

@[expose] public section

set_option synthInstance.maxSize 4096

noncomputable section

namespace Cert.Exch

open Cert.KernelIdeal Cert.KernelIdeal.Gen
open Idealize.ShloMosaic Idealize.ShloMosaic.TcCoe Idealize.SL.Sem

variable {F : FTy → Type} [FloatOps F]

/-- The distance of step `r`, as a slot number. -/
abbrev slotNo (r : Fin 31) : Fin 32 := ⟨1 + r.val, by omega⟩
/-- The step whose word names the weight block step `r` reads. -/
abbrev wNo (r : Fin 31) : Fin 31 := ⟨30 - r.val, by omega⟩

theorem inb_sem (k : Fin 32) : ∀ a, (![k.val] : Fin 1 → Nat) a + S1.size a ≤ S32.size a := by revert k; decide
theorem inb_slot (k : Fin 32) : ∀ a, (![k.val, 0, 0] : Fin 3 → Nat) a + S1x128x128.size a ≤ S32x128x128.size a := by
  revert k; decide
theorem words_slot (k : Fin 32) :
    (Rect.unit (s := S32x128x128) ![k.val, 0, 0] S1x128x128.size (inb_slot k)).WholeWords (EltTy.packing .i8) := by
  revert k; decide

/-- Semaphore `k` of an array of 32. -/
abbrev semAt (a : DmaSems sig S32) (k : Fin 32) : DmaSem sig :=
  ((a.slice (Rect.unit (s := S32) ![k.val] S1.size (inb_sem k))).squeeze S_ squeezes_S1_S_).sem

/-- Slot `k` of the landing buffer, as a matrix. -/
abbrev slotM (b : Memref sig .tc .vmem S32x128x128 .i8) (k : Fin 32) : Memref sig .tc .vmem S128x128 .i8 :=
  (b.slice (Rect.unit (s := S32x128x128) ![k.val, 0, 0] S1x128x128.size (inb_slot k)) (fun _ => rfl)).squeeze S128x128
    squeezes_S1x128x128_S128x128

/-- The block of the operand that step `r` sends. -/
abbrev srcM (x : Memref sig .tc .vmem S4096x128 .i8) (d : Dev nD) (r : Fin 31) : Memref sig .tc .vmem S128x128 .i8 :=
  x.slice (Rect.unit (s := S4096x128) (k0_off3 d (BitVec.ofNat 32 (1 + r.val))) S128x128.size (k0_off3_inb d r)) (fun _ => rfl)

/-- The device step `r` sends to, as the kernel computes it. -/
def dstW (d : Dev nD) (r : Fin 31) : Nat :=
  (Scalar.addi 0#32 (Scalar.muli (Scalar.remsi (Scalar.addi (Scalar.remsi (Scalar.divsi (Dev.word d) 1#32) 32#32)
    (BitVec.ofNat 32 (1 + r.val))) 32#32) 1#32)).toNat

theorem dstW_eq (d : Dev nD) (r : Fin 31) : dstW d r = (d.val + (1 + r.val)) % 32 := by
  revert d r; decide +kernel

theorem dstW_lt (d : Dev nD) (r : Fin 31) : dstW d r < nD := by
  rw [dstW_eq]; exact Nat.mod_lt _ (by decide)

/-- The barrier semaphore. -/
abbrev barS : Sem sig := (SemArray.scalar (sig.barrier 0 rfl) : Sems sig S_).sem

section Body

variable (arg0 : Memref sig .tc .vmem S4096x128 .i8) (harg0 : arg0.IsWhole) (arg1 : Memref sig .tc .vmem S4096x8192 .i8) (harg1 : arg1.IsWhole)
variable (arg2 : Memref sig .tc .smem S1 .f32) (harg2 : arg2.IsWhole) (arg3 : Memref sig .tc .smem S1 .f32) (harg3 : arg3.IsWhole)
variable (arg4 : Memref sig .tc .vmem S128x8192 .f32) (harg4 : arg4.IsWhole) (arg5 : Memref sig .tc .vmem S32x128x128 .i8) (harg5 : arg5.IsWhole)
variable (arg6 : DmaSems sig S32) (arg7 : DmaSems sig S32)

/-- The neighbour's barrier semaphore is signalled. -/
def sigP (d : Dev nD) : Prog (TpuEff nD τ sig (Elt F) Λ₀ .tc) PUnit :=
  semSignalWord (⟨k0_dev1 d, k0_dev1_lt d⟩ : Dev nD) barS 1#32

/-- One unit of the own barrier semaphore is awaited. -/
def waitP : Prog (TpuEff nD τ sig (Elt F) Λ₀ .tc) PUnit := semWaitWord barS 1#32

/-- Step `r`'s transfer is started. -/
def copyP (d : Dev nD) (r : Fin 31) : Prog (TpuEff nD τ sig (Elt F) Λ₀ .tc) PUnit :=
  Prog.lift (.enqueueDma (srcM arg0 d r) (.remote (Dev.tc (⟨dstW d r, dstW_lt d r⟩ : Dev nD)) (slotM arg5 (slotNo r)) (.dma (semAt arg6 (slotNo r))))
    (.dma (semAt arg7 (slotNo r))) (harg0.wordExact_slice rfl _ (k0_off3_wordsi8 d r))
    ((harg5.wordExact_slice rfl _ (words_slot (slotNo r))).reshape _ _) ⟨⟨rfl, Or.inl rfl⟩, trivial⟩)

/-- Step `r`'s incoming block is awaited. -/
def recvP (r : Fin 31) : Prog (TpuEff nD τ sig (Elt F) Λ₀ .tc) PUnit :=
  Prog.lift (.waitDma2 (semAt arg7 (slotNo r)) (slotM arg5 (slotNo r)) (slotM arg5 (slotNo r))
    ((harg5.wordExact_slice rfl _ (words_slot (slotNo r))).reshape _ _) ((harg5.wordExact_slice rfl _ (words_slot (slotNo r))).reshape _ _))

/-- Step `r`'s outgoing transfer is awaited. -/
def sentP (d : Dev nD) (r : Fin 31) : Prog (TpuEff nD τ sig (Elt F) Λ₀ .tc) PUnit :=
  Prog.lift (.waitDma2 (semAt arg6 (slotNo r)) (slotM arg5 (slotNo r)) (srcM arg0 d r)
    ((harg5.wordExact_slice rfl _ (words_slot (slotNo r))).reshape _ _) (harg0.wordExact_slice rfl _ (k0_off3_wordsi8 d r)))

/-- Slot `k` of the landing buffer is read. -/
def loadSlot (k : Fin 32) : Prog (TpuEff nD τ sig (Elt F) Λ₀ .tc) (Vec F S1x128x128 .i8) :=
  Prog.lift (.load arg5 (Rect.unit (s := S32x128x128) ![k.val, 0, 0] S1x128x128.size (inb_slot k)).toLoadRect (View.loadsAt_vmem h_S1x128x128))

/-- The weight block of step `r` is read. -/
def loadW (d : Dev nD) (r : Fin 31) : Prog (TpuEff nD τ sig (Elt F) Λ₀ .tc) (Vec F S128x8192 .i8) :=
  Prog.lift (.load arg1 (Rect.unit (s := S4096x8192) (k0_off4 d (BitVec.ofNat 32 (1 + (wNo r).val))) S128x8192.size (k0_off4_inb d (wNo r))).toLoadRect
    (View.loadsAt_vmem h_S128x8192))

/-- The transfer of step `r` and what it reads once its incoming block has landed. -/
def xferP (d : Dev nD) (r : Fin 31) : Prog (TpuEff nD τ sig (Elt F) Λ₀ .tc) (Vec F S1x128x128 .i8 × Vec F S128x8192 .i8) := do
  copyP arg0 harg0 arg5 harg5 arg6 arg7 d r
  recvP arg5 harg5 arg7 r
  let l ← loadSlot arg5 (slotNo r)
  let w ← loadW arg1 d r
  pure (l, w)

/-- The `n` steps from step `r` on, each with the signal for the step after it. -/
def stepsP (d : Dev nD) : (n r : ℕ) → n + r ≤ 30 → IVec S128x8192 32 → Prog (TpuEff nD τ sig (Elt F) Λ₀ .tc) (IVec S128x8192 32)
  | 0, _, _, acc => pure acc
  | n + 1, r, h, acc => do
    waitP
    sigP d
    let lw ← xferP arg0 harg0 arg1 arg5 harg5 arg6 arg7 d ⟨r, by omega⟩
    stepsP d n (r + 1) (by omega) (k0_pay3 acc lw.1 lw.2)

/-- The waits for the `n` outgoing transfers from step `r` on. -/
def sentsP (d : Dev nD) : (n r : ℕ) → n + r ≤ 31 → Prog (TpuEff nD τ sig (Elt F) Λ₀ .tc) PUnit
  | 0, _, _ => pure ⟨⟩
  | n + 1, r, h => do
    sentP arg0 harg0 arg5 harg5 arg6 d ⟨r, by omega⟩
    sentsP d n (r + 1) (by omega)

/-- The own block is put into slot 0 and its product computed. -/
def ownP (d : Dev nD) : Prog (TpuEff nD τ sig (Elt F) Λ₀ .tc) (IVec S128x8192 32) := do
  let x : Vec F S128x128 .i8 ← Prog.lift (.load arg0 (Rect.unit (s := S4096x128) (k0_off1 d) S128x128.size (k0_off1_inb d)).toLoadRect (View.loadsAt_vmem h_S128x128))
  let _ : Vec F S1x128x128 .i8 ← loadSlot arg5 0
  Prog.lift (.store arg5 (Rect.unit (s := S32x128x128) ![0, 0, 0] S1x128x128.size inb_S32x128x128_S1x128x128_0_0_0) (k0_pay1 x) Finset.univ
    (View.stores_vmem h_S1x128x128 (harg5.storeExact_slice rfl _ packedi8_S32x128x128_S1x128x128_0_0_0) (fun _ => rfl)) (.inl rfl))
  let l ← loadSlot arg5 0
  let w : Vec F S128x8192 .i8 ← Prog.lift (.load arg1 (Rect.unit (s := S4096x8192) (k0_off2 d) S128x8192.size (k0_off2_inb d)).toLoadRect (View.loadsAt_vmem h_S128x8192))
  pure (k0_pay2 l w)

/-- The result is scaled and stored. -/
def outP (acc : IVec S128x8192 32) (l : Vec F S1x128x128 .i8) (w : Vec F S128x8192 .i8) : Prog (TpuEff nD τ sig (Elt F) Λ₀ .tc) PUnit := do
  let s : Elt F .f32 ← smemLoad arg2 (Rect.unit (s := S1) ![0] S1.size inb_S1_S1_0) numel1_S1 rfl
  let t : Elt F .f32 ← smemLoad arg3 (Rect.unit (s := S1) ![0] S1.size inb_S1_S1_0) numel1_S1 rfl
  let _ : Vec F S128x8192 .f32 ← Prog.lift (.load arg4 (Rect.unit (s := S128x8192) ![0, 0] S128x8192.size inb_S128x8192_S128x8192_0_0).toLoadRect (View.loadsAt_vmem h_S128x8192))
  Prog.lift (.store arg4 (Rect.unit (s := S128x8192) ![0, 0] S128x8192.size inb_S128x8192_S128x8192_0_0) (k0_pay38 acc l w s t) Finset.univ
    (View.stores_vmem_bits_univ h_S128x8192 rfl) (.inl rfl))

/-- The whole body, in loop form. -/
def bodyP : Prog (TpuEff nD τ sig (Elt F) Λ₀ .tc) PUnit := do
  let d : Dev nD ← Prog.lift .deviceId
  sigP d
  let a ← ownP arg0 arg1 arg5 harg5 d
  let acc ← stepsP arg0 harg0 arg1 arg5 harg5 arg6 arg7 d 30 0 (by omega) a
  waitP
  let lw ← xferP arg0 harg0 arg1 arg5 harg5 arg6 arg7 d 30
  outP arg2 arg3 arg4 acc lw.1 lw.2
  sentsP arg0 harg0 arg5 harg5 arg6 d 31 0 (by omega)

omit [FloatOps F] in
/-- Two programs starting with one operation are equal when what follows it is. -/
theorem op_congr {α β : Type} {e e' : TpuEff nD τ sig (Elt F) Λ₀ .tc β} {k k' : β → Prog (TpuEff nD τ sig (Elt F) Λ₀ .tc) α}
    (h : e = e') (hk : ∀ x, k x = k' x) : Prog.op e k = Prog.op e' k' := by
  rw [h, funext hk]

set_option maxRecDepth 65536 in
set_option maxHeartbeats 4000000 in
/-- The printed body is the loop form. -/
theorem body_eq : cc0_body (F := F) arg0 harg0 arg1 harg1 arg2 harg2 arg3 harg3 arg4 harg4 arg5 harg5 arg6 arg7
    = bodyP arg0 harg0 arg1 arg2 arg3 arg4 arg5 harg5 arg6 arg7 := by
  repeat refine op_congr rfl fun _ => ?_
  rfl

end Body

end Cert.Exch

end
-- ==== Proof.Protocol.lean ====
/-
  The protocol of the exchange: who signals and copies to whom, what every semaphore's duties hand over, what a device
  owes, and the levels that order the waits.

  A device's step at distance `k + 1` copies one block of its operand into a slot of the landing buffer of the device
  `k + 1` further on. The barrier semaphore is signalled 31 times by the next device; its signal number `j` says that the
  next `j + 1` devices have all entered the kernel: which is what the copy of step `j` asks of its target.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Ring
public import Idealize.ShloMosaic.Lib.Tactic

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The landing slots that are handed to another device: one per device and step. -/
abbrev Key : Type := Dev nD × Fin 31
abbrev UB : Type := URounds (GSem nD τ sig) ℕ
abbrev US : Type := Release.USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The ring of devices -/

/-- The device `n` further on. -/
def sh (d : Dev nD) (n : ℕ) : Dev nD := ⟨(d.val + n) % 32, Nat.mod_lt _ (by decide)⟩

theorem sh_val (d : Dev nD) (n : ℕ) : (sh d n).val = (d.val + n) % 32 := rfl
theorem sh_sh (d : Dev nD) (a b : ℕ) : sh (sh d a) b = sh d (a + b) := by
  apply Fin.ext; simp only [sh_val]; omega
theorem sh_32 (d : Dev nD) (n : ℕ) (h : n % 32 = 0) : sh d n = d := by
  have := d.isLt; have e : nD = 32 := rfl
  apply Fin.ext; simp only [sh_val]; omega

/-- The device before: whom a device signals. -/
abbrev prv (d : Dev nD) : Dev nD := sh d 31
/-- Whom step `k` copies to. -/
abbrev tgt (d : Dev nD) (k : Fin 31) : Dev nD := sh d (1 + k.val)
/-- From whom step `k`'s block comes. -/
abbrev src (d : Dev nD) (k : Fin 31) : Dev nD := sh d (31 - k.val)

theorem src_tgt (d : Dev nD) (k : Fin 31) : src (tgt d k) k = d :=
  (sh_sh d _ _).trans (sh_32 _ _ (by omega))
theorem tgt_src (d : Dev nD) (k : Fin 31) : tgt (src d k) k = d :=
  (sh_sh d _ _).trans (sh_32 _ _ (by omega))
theorem sh_prv (d : Dev nD) (n : ℕ) : sh (prv d) (1 + n) = sh d n := by
  rw [sh_sh]; apply Fin.ext; simp only [sh_val]; omega
theorem prv_sh (d : Dev nD) : prv (sh d 1) = d := (sh_sh d _ _).trans (sh_32 _ _ (by decide))
theorem sh1_prv (d : Dev nD) : sh (prv d) 1 = d := (sh_sh d _ _).trans (sh_32 _ _ (by decide))

/-- Step `k`'s target, as a rearrangement of the devices; -/
def tgtE (k : Fin 31) : Dev nD ≃ Dev nD := ⟨fun d => tgt d k, fun d => src d k, fun d => src_tgt d k, fun d => tgt_src d k⟩
/-- and the device before. -/
def prvE : Dev nD ≃ Dev nD := ⟨prv, fun d => sh d 1, sh1_prv, prv_sh⟩

theorem dev1_eq (d : Dev nD) : (⟨k0_dev1 d, k0_dev1_lt d⟩ : Dev nD) = prv d := Fin.ext (k0_dev1_eq d)
theorem dst_eq (d : Dev nD) (k : Fin 31) : (⟨dstW d k, dstW_lt d k⟩ : Dev nD) = tgt d k := Fin.ext (dstW_eq d k)

/-! ## The memrefs -/

abbrev xM : Memref sig .tc .vmem S4096x128 .i8 := Memref.whole cc0_stg0_0
abbrev wM : Memref sig .tc .vmem S4096x8192 .i8 := Memref.whole cc0_stg1_0
abbrev sM : Memref sig .tc .smem S1 .f32 := Memref.whole cc0_stg2_0
abbrev tM : Memref sig .tc .smem S1 .f32 := Memref.whole cc0_stg3_0
abbrev oM : Memref sig .tc .vmem S128x8192 .f32 := Memref.whole cc0_stg4_0
abbrev rM : Memref sig .tc .vmem S32x128x128 .i8 := Memref.whole cc0_scratch0
abbrev sendA : DmaSems sig S32 := cc0_scratch1
abbrev recvA : DmaSems sig S32 := cc0_scratch2

/-- The elements of slot `k` of the landing buffer. -/
def slotSet (k : Fin 32) : Finset (cc0_scratch0 : Ref sig .tc).ty.Idx :=
  (Rect.unit (s := S32x128x128) ![k.val, 0, 0] S1x128x128.size (inb_slot k)).set

theorem inb_blk (b : Dev nD) : ∀ a, (![128 * b.val, 0] : Fin 2 → Nat) a + S128x128.size a ≤ S4096x128.size a := by
  have h := b.isLt; have e : nD = 32 := rfl
  intro a; fin_cases a
  · show 128 * b.val + 128 ≤ 4096; omega
  · show 0 + 128 ≤ 128; omega

/-- The elements of row block `b` of the operand. -/
def xSet (b : Dev nD) : Finset (cc0_stg0_0 : Ref sig .tc).ty.Idx :=
  (Rect.unit (s := S4096x128) ![128 * b.val, 0] S128x128.size (inb_blk b)).set

theorem slotM_set (k : Fin 32) : (slotM rM k).view.set = slotSet k := by
  unfold slotSet
  rw [Memref.set_view_squeeze]
  exact View.set_slice_whole _ _

theorem unit_set_congr {s : Shape} {off off' size : Fin s.rank → Nat} {inb inb'} (h : off = off') :
    (Rect.unit (s := s) off size inb).set = (Rect.unit (s := s) off' size inb').set := by
  subst h; rfl

theorem srcM_set (d : Dev nD) (k : Fin 31) : (srcM xM d k).view.set = xSet (tgt d k) := by
  unfold xSet
  refine (View.set_slice_whole _ _).trans (unit_set_congr ?_)
  rw [k0_off3_eq]
  congr 3
  omega

/-! ## The cells -/

/-- The semaphores of the protocol on one device: the barrier's, the 31 send semaphores, the 31 receive semaphores. -/
abbrev CI : Type := Unit ⊕ (Fin 31 ⊕ Fin 31)

abbrev csem : CI → SemLoc sig
  | .inl _ => .reg barS
  | .inr (.inl k) => .dma (semAt sendA (slotNo k))
  | .inr (.inr k) => .dma (semAt recvA (slotNo k))

theorem send_val : ∀ k : Fin 32, (semAt sendA k).val = 5 + k.val := by decide +kernel
theorem recv_val : ∀ k : Fin 32, (semAt recvA k).val = 37 + k.val := by decide +kernel

theorem csem_injective : Function.Injective csem := by
  have inj {a b : DmaSem sig} (h : (SemLoc.dma a : SemLoc sig) = .dma b) : a.val = b.val := by cases h; rfl
  rintro (_ | k | k) (_ | k' | k') h
  · rfl
  · cases h
  · cases h
  · cases h
  · have := inj h; rw [send_val, send_val] at this
    have : k = k' := Fin.ext (by simp only at this; omega)
    rw [this]
  · have := inj h; rw [send_val, recv_val] at this
    simp only at this; omega
  · cases h
  · have := inj h; rw [send_val, recv_val] at this
    simp only at this; omega
  · have := inj h; rw [recv_val, recv_val] at this
    have : k = k' := Fin.ext (by simp only at this; omega)
    rw [this]

/-- Which semaphore of the protocol this is. -/
def kindOf (s : SemLoc sig) : Option CI := by
  classical exact if h : ∃ x, csem x = s then some h.choose else none

theorem kindOf_csem (x : CI) : kindOf (csem x) = some x := by
  unfold kindOf
  have h : ∃ y, csem y = csem x := ⟨x, rfl⟩
  rw [dif_pos h]
  exact congrArg some (csem_injective h.choose_spec)

abbrev kcell (c : Dev nD) (x : CI) : GSem nD τ sig := ((c : Thread nD τ), csem x)
abbrev barCell (c : Dev nD) : GSem nD τ sig := kcell c (.inl ())
abbrev sendCell (c : Dev nD) (k : Fin 31) : GSem nD τ sig := kcell c (.inr (.inl k))
abbrev recvCell (c : Dev nD) (k : Fin 31) : GSem nD τ sig := kcell c (.inr (.inr k))

theorem kcell_injective : Function.Injective (fun p : Dev nD × CI => kcell p.1 p.2) := by
  rintro ⟨c, x⟩ ⟨c', x'⟩ h
  have h1 : c = c' := congrArg (fun g : GSem nD τ sig => g.1.1) h
  have h2 : x = x' := csem_injective (congrArg Prod.snd h)
  rw [h1, h2]

/-- What one transfer credits. -/
abbrev N : ℕ := (slotM rM 1).view.dmaCredit
theorem N_pos : 0 < N := View.dmaCredit_pos _ (by decide)

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s operand, as staged; -/
def xstg (c : Dev nD) : (cc0_stg0_0 : Ref sig .tc).ty.Contents (Elt F) :=
  (win0_0.blk (0 : Fin 1)).view.read (Elt F) (m ((c : Thread nD τ).loc main_arg0))
/-- its weights, -/
def wstg (c : Dev nD) : (cc0_stg1_0 : Ref sig .tc).ty.Contents (Elt F) :=
  (win0_1.blk (0 : Fin 1)).view.read (Elt F) (m ((c : Thread nD τ).loc main_arg1))
/-- and its two scales. -/
def sstg (c : Dev nD) : (cc0_stg2_0 : Ref sig .tc).ty.Contents (Elt F) :=
  (win0_2.blk (0 : Fin 1)).view.read (Elt F) (m ((c : Thread nD τ).loc main_arg2))
def tstg (c : Dev nD) : (cc0_stg3_0 : Ref sig .tc).ty.Contents (Elt F) :=
  (win0_3.blk (0 : Fin 1)).view.read (Elt F) (m ((c : Thread nD τ).loc main_arg3))

/-- The block device `e` sends in step `k`. -/
def xblk (e : Dev nD) (k : Fin 31) : S128x128.Idx → Elt F .i8 := (srcM xM e k).view.read (Elt F) (xstg m e)

abbrev xLoc (c : Dev nD) : Loc nD τ sig := (c : Thread nD τ).loc cc0_stg0_0
abbrev rLoc (c : Dev nD) : Loc nD τ sig := (c : Thread nD τ).loc cc0_scratch0

/-- Row block `b` of device `c`'s operand. -/
def xPts (c b : Dev nD) : sProp 𝕄 := xLoc c ↦[xSet b]{fullShare} xstg m c
/-- Slot `k` of device `c`'s landing buffer, at some contents. -/
def freeSlot (p : Key) : sProp 𝕄 := Release.slot (rLoc p.1) (slotSet (slotNo p.2))
/-- Slot `k` of device `c`'s landing buffer, with the block that belongs there landed. -/
def landed (c : Dev nD) (k : Fin 31) : sProp 𝕄 :=
  iprop(∃ f : Buf (Elt F) (rLoc c), ⌜(slotM rM (slotNo k)).view.read (Elt F) f = xblk m (src c k) k⌝ ∗ rLoc c ↦[slotSet (slotNo k)]{fullShare} f)

/-- Device `e` has entered: all its landing slots have been given up. -/
def entered (e : Dev nD) : sProp 𝕄 := bigSep Finset.univ fun k : Fin 31 => Release.released ES (e, k) 1
/-- The `n` devices after `d` have entered. -/
def know (d : Dev nD) (n : ℕ) : sProp 𝕄 := bigSep (Finset.range n) fun i => entered (F := F) (sh d (1 + i))

instance xPts_storable (c b : Dev nD) : BI.Storable (upEmb : UEmb _ 𝕄) (xPts (F := F) m c b) := by unfold xPts; infer_instance
instance freeSlot_storable (p : Key) : BI.Storable (upEmb : UEmb _ 𝕄) (freeSlot (F := F) p) := by unfold freeSlot; infer_instance
instance landed_storable (c : Dev nD) (k : Fin 31) : BI.Storable (upEmb : UEmb _ 𝕄) (landed (F := F) m c k) := by unfold landed; infer_instance
instance entered_storable (e : Dev nD) : BI.Storable (upEmb : UEmb _ 𝕄) (entered (F := F) e) := by unfold entered; infer_instance
instance know_storable (d : Dev nD) (n : ℕ) : BI.Storable (upEmb : UEmb _ 𝕄) (know (F := F) d n) := by unfold know; infer_instance
instance entered_persistent (e : Dev nD) : BI.Persistent (entered (F := F) e) := by unfold entered; infer_instance
instance know_persistent (d : Dev nD) (n : ℕ) : BI.Persistent (know (F := F) d n) := by unfold know; infer_instance

omit [FloatOps F] in
/-- Knowing of more devices is knowing of fewer. -/
theorem know_mono (d : Dev nD) {a b : ℕ} (h : a ≤ b) : know (F := F) d b ⊢ know d a := by
  unfold know; exact bigSep_subset (Finset.range_mono h)

omit [FloatOps F] in
/-- Knowing of the `n` devices after it and having entered itself, `d` knows of the `n + 1` devices after the one before. -/
theorem know_prv (d : Dev nD) (n : ℕ) : iprop(entered (F := F) d ∗ know d n) ⊢ know (F := F) (prv d) (n + 1) := by
  unfold know
  have e : bigSep (Finset.range (n + 1)) (fun i => entered (F := F) (sh (prv d) (1 + i)))
      = iprop(entered (F := F) d ∗ bigSep (Finset.range n) fun i => entered (F := F) (sh d (1 + i))) := by
    rw [show Finset.range (n + 1) = insert 0 ((Finset.range n).map ⟨Nat.succ, Nat.succ_injective⟩) from by
        ext x; cases x <;> simp [Nat.lt_succ_iff],
      bigSep_insert (by simp), bigSep_map, sh_prv, sh_32 d 0 (by decide)]
    refine congrArg (fun P => iprop(entered (F := F) d ∗ P)) (bigSep_congr fun i _ => ?_)
    show entered (sh (prv d) (1 + (i + 1))) = _
    rw [sh_prv, Nat.add_comm 1 i]
  rw [e]

omit [FloatOps F] in
/-- What the copy of step `k` asks. -/
theorem know_released (d : Dev nD) (k : Fin 31) : know (F := F) d (k.val + 1) ⊢ Release.released ES (tgt d k, k) 1 := by
  unfold know entered
  exact (bigSep_elim (Finset.mem_range.mpr (Nat.lt_succ_self k.val))).trans (bigSep_elim (Finset.mem_univ k))

/-! ## The schedule -/

/-- One round. A barrier cell has 31 duties of one unit, the signals of the next device, number `j` with what that device
    knows then; a send cell and a receive cell one duty of a block's credit each: the block sent, the block landed. -/
def exRd : Rounds.Schedule (GSem nD τ sig) ℕ 𝕄 where
  duties g r := if r = 0 ∧ g.1.2 = .tc then
      match kindOf g.2 with
      | some (.inl _) => Finset.range 31
      | some (.inr _) => {0}
      | none => ∅
    else ∅
  unitless _ := False
  amount g _ _ := match kindOf g.2 with
    | some (.inl _) => 1
    | _ => N
  payload g _ j := match kindOf g.2 with
    | some (.inl _) => know g.1.1 (j + 1)
    | some (.inr (.inl k)) => xPts m g.1.1 (tgt g.1.1 k)
    | some (.inr (.inr k)) => landed m g.1.1 k
    | none => iprop(emp)
  amount_pos g _ _ _ := by
    rcases kindOf g.2 with _ | _ | _
    · exact N_pos
    · exact Nat.one_pos
    · exact N_pos

instance exRd_storable (g : GSem nD τ sig) (r : ℕ) (j : ℕ) :
    BI.Storable (upEmb : UEmb _ 𝕄) ((exRd (F := F) m).payload g r j) := by
  dsimp only [exRd]
  split <;> infer_instance

section Sched
variable (c : Dev nD) (k : Fin 31)

theorem duties_bar : (exRd (F := F) m).duties (barCell c) 0 = Finset.range 31 := by
  dsimp only [exRd]; rw [if_pos ⟨rfl, rfl⟩, kindOf_csem]
theorem duties_send : (exRd (F := F) m).duties (sendCell c k) 0 = {0} := by
  dsimp only [exRd]; rw [if_pos ⟨rfl, rfl⟩, kindOf_csem]
theorem duties_recv : (exRd (F := F) m).duties (recvCell c k) 0 = {0} := by
  dsimp only [exRd]; rw [if_pos ⟨rfl, rfl⟩, kindOf_csem]
theorem duties_later (g : GSem nD τ sig) : ∀ r, 1 ≤ r → (exRd (F := F) m).duties g r = ∅ :=
  fun r hr => by dsimp only [exRd]; rw [if_neg fun h => by omega]

theorem amount_bar (j : ℕ) : (exRd (F := F) m).amount (barCell c) 0 j = 1 := by
  dsimp only [exRd]; rw [kindOf_csem]
theorem amount_send (j : ℕ) : (exRd (F := F) m).amount (sendCell c k) 0 j = N := by
  dsimp only [exRd]; rw [kindOf_csem]
theorem amount_recv (j : ℕ) : (exRd (F := F) m).amount (recvCell c k) 0 j = N := by
  dsimp only [exRd]; rw [kindOf_csem]

theorem expect_bar : (exRd (F := F) m).expect (barCell c) 0 = 31 := by
  unfold Schedule.expect Schedule.amountOf
  rw [duties_bar, Finset.sum_congr rfl fun j _ => amount_bar m c j, Finset.sum_const, Finset.card_range, smul_eq_mul]
theorem expect_send : (exRd (F := F) m).expect (sendCell c k) 0 = N := by
  unfold Schedule.expect Schedule.amountOf; rw [duties_send, Finset.sum_singleton, amount_send]
theorem expect_recv : (exRd (F := F) m).expect (recvCell c k) 0 = N := by
  unfold Schedule.expect Schedule.amountOf; rw [duties_recv, Finset.sum_singleton, amount_recv]

theorem payload_bar (j : ℕ) : (exRd (F := F) m).payload (barCell c) 0 j = know c (j + 1) := by
  dsimp only [exRd]; rw [kindOf_csem]
theorem payload_send (j : ℕ) : (exRd (F := F) m).payload (sendCell c k) 0 j = xPts m c (tgt c k) := by
  dsimp only [exRd]; rw [kindOf_csem]
theorem payload_recv (j : ℕ) : (exRd (F := F) m).payload (recvCell c k) 0 j = landed m c k := by
  dsimp only [exRd]; rw [kindOf_csem]

theorem rest_send : bigSep ((exRd (F := F) m).duties (sendCell c k) 0 \ ∅) (fun j => (exRd (F := F) m).payload (sendCell c k) 0 j)
    = xPts m c (tgt c k) := by
  rw [Finset.sdiff_empty, duties_send, bigSep_singleton, payload_send]
theorem rest_recv : bigSep ((exRd (F := F) m).duties (recvCell c k) 0 \ ∅) (fun j => (exRd (F := F) m).payload (recvCell c k) 0 j)
    = landed m c k := by
  rw [Finset.sdiff_empty, duties_recv, bigSep_singleton, payload_recv]

end Sched

/-! ## The steps from a step on, and before it -/

/-- The steps from `a` on; -/
def ge (a : ℕ) : Finset (Fin 31) := Finset.univ.filter fun k => a ≤ k.val
/-- the steps before `a`. -/
def lt (a : ℕ) : Finset (Fin 31) := Finset.univ.filter fun k => k.val < a

theorem mem_ge {a : ℕ} {k : Fin 31} : k ∈ ge a ↔ a ≤ k.val := by simp [ge]
theorem mem_lt {a : ℕ} {k : Fin 31} : k ∈ lt a ↔ k.val < a := by simp [lt]
theorem ge_step {a : ℕ} (h : a < 31) : ge a = insert ⟨a, h⟩ (ge (a + 1)) := by
  ext k; rw [Finset.mem_insert, mem_ge, mem_ge, Fin.ext_iff]; simp only; omega
theorem ge_notMem {a : ℕ} (h : a < 31) : (⟨a, h⟩ : Fin 31) ∉ ge (a + 1) := by rw [mem_ge]; simp
theorem lt_step {a : ℕ} (h : a < 31) : lt (a + 1) = insert ⟨a, h⟩ (lt a) := by
  ext k; rw [Finset.mem_insert, mem_lt, mem_lt, Fin.ext_iff]; simp only; omega
theorem lt_notMem {a : ℕ} (h : a < 31) : (⟨a, h⟩ : Fin 31) ∉ lt a := by rw [mem_lt]; simp
theorem ge_zero : ge 0 = Finset.univ := by ext k; simp [mem_ge]
theorem ge_last : ge 31 = ∅ := by ext k; simp [mem_ge]
theorem lt_zero : lt 0 = ∅ := by ext k; simp [mem_lt]
theorem lt_last : lt 31 = Finset.univ := by ext k; simp [mem_lt]

omit [FloatOps F] in
/-- The first of the steps from `a` on, apart; -/
theorem sep_ge (Φ : Fin 31 → sProp 𝕄) {a : ℕ} (h : a < 31) : bigSep (ge a) Φ = iprop(Φ ⟨a, h⟩ ∗ bigSep (ge (a + 1)) Φ) := by
  rw [ge_step h]; exact bigSep_insert (ge_notMem h)
omit [FloatOps F] in
/-- one more of the steps before. -/
theorem sep_lt (Φ : Fin 31 → sProp 𝕄) {a : ℕ} (h : a < 31) : bigSep (lt (a + 1)) Φ = iprop(Φ ⟨a, h⟩ ∗ bigSep (lt a) Φ) := by
  rw [lt_step h]; exact bigSep_insert (lt_notMem h)

/-! ## What a device owes; the levels -/

/-- The signals from number `a` on and the transfers from step `b` on: signal `k` at index `2k + 2`, transfer `k` at
    index `2k + 3`. -/
def Owe (d : Dev nD) (a b : ℕ) : CellTallies nD τ sig ℕ :=
  (∑ k ∈ ge a, tallyAt (barCell (prv d)) (2 * k.val + 2) 1) + ∑ k ∈ ge b, tallyAt (recvCell (tgt d k) k) (2 * k.val + 3) N

theorem Owe_signal (d : Dev nD) {a : ℕ} (b : ℕ) (h : a < 31) :
    Owe d a b = Owe d (a + 1) b + tallyAt (barCell (prv d)) (2 * a + 2) 1 := by
  unfold Owe; rw [ge_step h, Finset.sum_insert (ge_notMem h), add_assoc, add_comm]
theorem Owe_copy (d : Dev nD) (a : ℕ) (k : Fin 31) :
    Owe d a k.val = Owe d a (k.val + 1) + tallyAt (recvCell (tgt d k) k) (2 * k.val + 3) N := by
  unfold Owe; rw [ge_step k.isLt, Finset.sum_insert (ge_notMem k.isLt), add_comm (tallyAt _ _ _), add_assoc]
theorem Owe_done (d : Dev nD) : Owe d 31 31 = 0 := by
  unfold Owe; rw [ge_last]; simp

theorem sum_tally_pos {S : Finset (Fin 31)} {f : Fin 31 → CellTallies nD τ sig ℕ} {g : GSem nD τ sig} {u : ℕ}
    (h : 0 < (∑ k ∈ S, f k) g u) : ∃ k ∈ S, 0 < f k g u := by
  by_contra hn
  have hz : (∑ k ∈ S, f k) g u = 0 := by
    rw [Finset.sum_apply, Finsupp.finset_sum_apply]
    exact Finset.sum_eq_zero fun k hk => Nat.eq_zero_of_not_pos fun h' => hn ⟨k, hk, h'⟩
  omega

theorem tally_pos {g g' : GSem nD τ sig} {u u' n : ℕ} (h : 0 < (tallyAt g' u' n : CellTallies nD τ sig ℕ) g u) : g = g' ∧ u = u' := by
  rw [tallyAt_apply] at h
  by_contra hn
  rw [if_neg hn] at h
  exact Nat.lt_irrefl 0 h

/-- Everything owed is on a core, above what is done already and below 66. -/
theorem Owe_pos {d : Dev nD} {a b : ℕ} {g : GSem nD τ sig} {u : ℕ} (h : 0 < Owe d a b g u) :
    g.1.2 = .tc ∧ u < 66 ∧ (2 * a + 2 ≤ u ∨ 2 * b + 3 ≤ u) := by
  unfold Owe at h
  rw [Pi.add_apply, Finsupp.add_apply] at h
  rcases Nat.eq_zero_or_pos ((∑ k ∈ ge a, (tallyAt (barCell (prv d)) (2 * k.val + 2) 1 : CellTallies nD τ sig ℕ)) g u) with h0 | h0
  · rw [h0, Nat.zero_add] at h
    obtain ⟨k, hk, hp⟩ := sum_tally_pos h
    obtain ⟨rfl, rfl⟩ := tally_pos hp
    have := mem_ge.mp hk
    exact ⟨rfl, by omega, .inr (by omega)⟩
  · obtain ⟨k, hk, hp⟩ := sum_tally_pos h0
    obtain ⟨rfl, rfl⟩ := tally_pos hp
    have := mem_ge.mp hk
    exact ⟨rfl, by omega, .inl (by omega)⟩

def L (g : GSem nD τ sig) : Finset ℕ := if g.1.2 = .tc then Finset.range 66 else ∅
def lv (_ : GSem nD τ sig) (i : ℕ) : ℕ := i

theorem L_of_ne (g : GSem nD τ sig) (h : g.1.2 ≠ .tc) : L g = ∅ := if_neg h

/-- A device may wait at an index below everything it owes. -/
theorem mayWait (d : Dev nD) (sm : SemLoc sig) {a b : ℕ} (i : ℕ) (hi : i < 66) (ha : i < 2 * a + 2) (hb : i < 2 * b + 3) :
    (levAts L lv : sProp 𝕄) ⊢ MayWait (d : Thread nD τ) sm i (Owe d a b) :=
  MayOwe.of_cut (L := L) (lev := lv) i
    (fun p hp => by rw [Finset.mem_singleton.mp hp]; unfold L; rw [if_pos rfl]; exact Finset.mem_range.mpr hi)
    (fun g u hg => by obtain ⟨h1, h2, -⟩ := Owe_pos hg; unfold L; rw [if_pos h1]; exact Finset.mem_range.mpr h2)
    (fun p hp => by rw [Finset.mem_singleton.mp hp]; exact Nat.le_refl _)
    (fun g u hg => by obtain ⟨-, -, h3⟩ := Owe_pos hg; show i < u; omega)

end Cert.Exch

end
-- ==== Proof.Step.lean ====
/-
  The operations of one exchange step, each run once at a symbolic device and step: the signal to the device before, the
  wait on the own barrier semaphore, the copy of a block, the wait for the block that comes in, the wait for the block
  that went out, and the reads.
-/
module

public import proofs.«01_k».proof.Proof.Protocol

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- Program `p` run on device `d` ends with `Q`. -/
abbrev WP {α : Type} (d : Dev nD) (p : Prog (TpuEff nD τ sig (Elt F) Λ₀ .tc) α) (Q : α → sProp 𝕄) : sProp 𝕄 :=
  wp frame (wpE (defs₀ (F := F)) 𝒱₀ (d : Thread nD τ) none) Set.univ p Q

/-- Device `d` owes `O`, whatever it has waited for. -/
def ow (d : Dev nD) (O : CellTallies nD τ sig ℕ) : sProp 𝕄 := iprop(∃ W, owes (d : Thread nD τ) O W)

/-- The invariants of all cells and slots, that every cell has reached its one round, and the levels. -/
def records (K : Dev nD × CI → ℕ) (κ : Key → ℕ) : sProp 𝕄 :=
  iprop((bigSep Finset.univ fun p : Dev nD × CI => cellInv ER (exRd m) (K p) (kcell p.1 p.2))
    ∗ (bigSep Finset.univ fun p : Dev nD × CI => reached ER (kcell p.1 p.2) 0)
    ∗ (bigSep Finset.univ fun p : Key => Release.slotInv ES (κ p) p (freeSlot p))
    ∗ levAts L lv)

instance records_persistent (K : Dev nD × CI → ℕ) (κ : Key → ℕ) : BI.Persistent (records m K κ) := by
  unfold records; infer_instance

variable (K : Dev nD × CI → ℕ) (κ : Key → ℕ)

omit [FloatOps F] in
theorem sep_elim {I : Type} [DecidableEq I] [Fintype I] (Φ : I → sProp 𝕄) (i : I) : (bigSep Finset.univ Φ : sProp 𝕄) ⊢ Φ i :=
  bigSep_elim (Finset.mem_univ i)

/-- One cell's invariant; -/
theorem inv_of (c : Dev nD) (x : CI) : records m K κ ⊢ cellInv ER (exRd m) (K (c, x)) (kcell c x) := by
  unfold records
  iintro ⟨H, -⟩
  iapply (sep_elim (F := F) (fun p : Dev nD × CI => cellInv ER (exRd m) (K p) (kcell p.1 p.2)) (c, x)); iexact H
/-- that it has reached its round; -/
theorem reached_of (c : Dev nD) (x : CI) : records m K κ ⊢ reached ER (kcell c x) 0 := by
  unfold records
  iintro ⟨-, H, -⟩
  iapply (sep_elim (F := F) (fun p : Dev nD × CI => reached ER (kcell p.1 p.2) 0) (c, x)); iexact H
/-- one slot's invariant; -/
theorem slot_of (p : Key) : records m K κ ⊢ Release.slotInv ES (κ p) p (freeSlot p) := by
  unfold records
  iintro ⟨-, -, H, -⟩
  iapply (sep_elim (F := F) (fun p : Key => Release.slotInv ES (κ p) p (freeSlot p)) p); iexact H
/-- the levels. -/
theorem levels_of : records m K κ ⊢ (levAts L lv : sProp 𝕄) := by
  unfold records
  iintro ⟨-, -, -, H⟩
  iexact H

/-- A wait at an index below what the device owes is allowed. -/
theorem mayWait_of (d : Dev nD) (sm : SemLoc sig) {a b : ℕ} (i : ℕ) (hi : i < 66) (ha : i < 2 * a + 2) (hb : i < 2 * b + 3) :
    records m K κ ⊢ MayWait (d : Thread nD τ) sm i (Owe d a b) :=
  (@levels_of F _ m K κ).trans (mayWait (F := F) d sm i hi ha hb)

variable {α : Type} {k : PUnit.{1} → Prog (TpuEff nD τ sig (Elt F) Λ₀ .tc) α}

/-! ## The barrier -/

/-- The signal number `a` to the device before: it says that `d` and the `a` devices after it have entered. -/
theorem wp_sig {Q : α → sProp 𝕄} (d : Dev nD) {a : ℕ} (b : ℕ) (h : a < 31) :
    iprop(records m K κ ∗ ow d (Owe d a b) ∗ dutyTok ER (barCell (prv d)) 0 a ∗ entered d ∗ know d a)
      ⊢ iprop((ow d (Owe d (a + 1) b) -∗ WP d (k ⟨⟩) Q) -∗ WP d (sigP d >>= k) Q) := by
  unfold sigP
  simp only [semSignalWord, Prog.lift, Prog.bind_op, Prog.bind_ret, Prog.pure_eq_ret, dev1_eq d]
  unfold ow
  iintro ⟨#HR, ⟨%W, HO⟩, Ht, He, Hk⟩ Hc
  rw [Owe_signal d b h]
  iapply (Rounds.wp_signal 𝒱₀ ER (exRd m) (d : Thread nD τ) none (dst := (prv d : Thread nD τ)) (κ := K (prv d, .inl ()))
      (d := a) (by rw [duties_bar]; exact Finset.mem_range.mpr h) ((amount_bar m (prv d) a).trans (by decide)) (2 * a + 2) (Owe d (a + 1) b) rfl)
    $$ [HO Ht He Hk]
  · isplitr; · iapply (inv_of m K κ (prv d) (.inl ())); iexact HR
    isplitl [HO]; · iexact HO
    isplitl [Ht]; · iexact Ht
    isplitl [He Hk]
    · rw [payload_bar]; iapply (know_prv d a); isplitl [He] <;> iassumption
    iapply (reached_of m K κ (prv d) (.inl ())); iexact HR
  iintro HO
  iapply Hc
  iexists W; iexact HO

/-- The own barrier cell after `r` of its units: what the duties taken so far said. -/
def barState (d : Dev nD) (r : ℕ) : sProp 𝕄 :=
  iprop(∃ T, atPos ER (barCell d) 0 T r ∗ bigSep T fun j => know (F := F) d (j + 1))

omit [FloatOps F] in
/-- Of `31` signals numbered from 0, with `n + 1` or more taken some taken one has number `n` or more. -/
theorem some_late {S : Finset ℕ} {n : ℕ} (hS : S ⊆ Finset.range 31) (hc : n + 1 + (Finset.range 31 \ S).card ≤ 31) : ∃ j ∈ S, n ≤ j := by
  by_contra hn
  have hsub : S ⊆ Finset.range n := fun j hj => Finset.mem_range.mpr (Nat.lt_of_not_le fun h => hn ⟨j, hj, h⟩)
  have h1 := Finset.card_le_card hsub
  rw [Finset.card_range] at h1
  have h2 := Finset.card_sdiff_add_card_eq_card hS
  rw [Finset.card_range] at h2
  omega

omit [FloatOps F] in
theorem know_of_taken {S : Finset ℕ} {d : Dev nD} {n j : ℕ} (hj : j ∈ S) (h : n ≤ j) :
    (bigSep S fun j => know (F := F) d (j + 1)) ⊢ know d (n + 1) :=
  (bigSep_elim hj).trans (know_mono d (Nat.succ_le_succ h))

/-- The wait of step `r` on the own barrier cell: the next `r + 1` devices have entered. -/
theorem wp_bar {Q : α → sProp 𝕄} (d : Dev nD) (r : Fin 31) {a b : ℕ} (ha : r.val + 1 ≤ a) (hb : r.val ≤ b) :
    iprop(records m K κ ∗ ow d (Owe d a b) ∗ cred (tallyAt (barCell d) (2 * r.val + 2) 1) ∗ barState d r.val)
      ⊢ iprop(((ow d (Owe d a b) ∗ barState d (r.val + 1) ∗ know d (r.val + 1)) -∗ WP d (k ⟨⟩) Q) -∗ WP d (waitP >>= k) Q) := by
  unfold waitP
  simp only [semWaitWord, Prog.lift, Prog.bind_op, Prog.bind_ret, Prog.pure_eq_ret]
  unfold ow barState
  iintro ⟨#HR, ⟨%W, HO⟩, Hcr, ⟨%T, Hat, #HT⟩⟩ Hc
  iapply (Rounds.wp_wait 𝒱₀ ER (exRd m) (d : Thread nD τ) none (κ := K (d, .inl ())) (sm := .reg barS)
      (wpE_semWait_eq 𝒱₀ (d : Thread nD τ) none Set.univ) (Set.mem_univ _) (cr := Finsupp.single (2 * r.val + 2) 1)
      {(SemLoc.reg barS, 2 * r.val + 2)} (R := 0) (m := r.val) (T := T) (by rw [Util.total_single]; rfl) (image_single_subset _ _ _)) $$ [HO Hcr Hat]
  · isplitr; · iapply (inv_of m K κ d (.inl ())); iexact HR
    isplitl [Hcr]; · iexact Hcr
    isplitl [HO]; · iexact HO
    isplitr
    · iapply (mayWait_of m K κ d (.reg barS) (a := a) (b := b) (2 * r.val + 2) (by omega) (by omega) (by omega)); iexact HR
    iexact Hat
  iintro %S ⟨%hS, HO, Hat, Hp⟩
  obtain ⟨hTS, hSD, hcard⟩ := hS
  rw [duties_bar] at hSD
  have hcard' : r.val + 1 + (Finset.range 31 \ S).card ≤ 31 := by
    have := hcard; rw [expect_bar, duties_bar] at this; exact this
  obtain ⟨j, hj, hrj⟩ := some_late hSD hcard'
  have hun : iprop((bigSep (S \ T) fun j => (exRd (F := F) m).payload (barCell d) 0 j) ∗ bigSep T fun j => know (F := F) d (j + 1))
      ⊢ bigSep S fun j => know (F := F) d (j + 1) := by
    rw [bigSep_congr fun j _ => payload_bar m d j]
    exact (bigSep_sep_union _ _).trans (bigSep_subset (by rw [Finset.sdiff_union_of_subset hTS]))
  ihave #HS := hun $$ [Hp]
  · isplitl [Hp]; · iexact Hp
    iexact HT
  iapply Hc
  isplitl [HO]; · iexists _; iexact HO
  isplitl [Hat]
  · iexists S; isplitl; · iexact Hat
    iexact HS
  iapply (know_of_taken hj hrj); iexact HS

/-- The last wait on the own barrier cell: all other devices have entered, and the cell closes. -/
theorem wp_bar_last {Q : α → sProp 𝕄} (d : Dev nD) {b : ℕ} (hb : 30 ≤ b) :
    iprop(records m K κ ∗ ow d (Owe d 31 b) ∗ cred (tallyAt (barCell d) 62 1) ∗ barState d 30)
      ⊢ iprop(((ow d (Owe d 31 b) ∗ semVal (barCell d) 0 ∗ know d 31) -∗ WP d (k ⟨⟩) Q) -∗ WP d (waitP >>= k) Q) := by
  unfold waitP
  simp only [semWaitWord, Prog.lift, Prog.bind_op, Prog.bind_ret, Prog.pure_eq_ret]
  unfold ow barState
  iintro ⟨#HR, ⟨%W, HO⟩, Hcr, ⟨%T, Hat, #HT⟩⟩ Hc
  iapply (Rounds.wp_wait_rest_token 𝒱₀ ER (exRd m) (d : Thread nD τ) none (κ := K (d, .inl ())) (sm := .reg barS)
      (wpE_semWait_eq 𝒱₀ (d : Thread nD τ) none Set.univ) (Set.mem_univ _) 62 (O := Owe d 31 b) (W := W) (R := 0) (m := 30) (T := T)
      (by rw [expect_bar]; rfl)) $$ [HO Hcr Hat]
  · isplitr; · iapply (inv_of m K κ d (.inl ())); iexact HR
    isplitl [Hcr]; · iexact Hcr
    isplitl [HO]; · iexact HO
    isplitr
    · iapply (mayWait_of m K κ d (.reg barS) (a := 31) (b := b) 62 (by omega) (by omega) (by omega)); iexact HR
    iexact Hat
  iintro ⟨HO, Hat, -, Hp⟩
  have hun : iprop((bigSep ((exRd (F := F) m).duties (barCell d) 0 \ T) fun j => (exRd (F := F) m).payload (barCell d) 0 j)
        ∗ bigSep T fun j => know (F := F) d (j + 1))
      ⊢ bigSep (Finset.range 31) fun j => know (F := F) d (j + 1) := by
    rw [bigSep_congr fun j _ => payload_bar m d j, duties_bar]
    exact (bigSep_sep_union _ _).trans (bigSep_subset (by rw [Finset.sdiff_union_self_eq_union]; exact Finset.subset_union_left))
  ihave #HS := hun $$ [Hp]
  · isplitl [Hp]; · iexact Hp
    iexact HT
  imod (Rounds.cell_close ER (exRd m) (Set.mem_univ (K (d, .inl ()))) (fun h => h) (R := 0 + 1) (duties_later m (barCell d))) $$ [Hat] with Hz
  · isplitr; · iapply (inv_of m K κ d (.inl ())); iexact HR
    iexact Hat
  iapply Hc
  isplitl [HO]; · iexists _; iexact HO
  isplitl [Hz]; · iexact Hz
  iapply (know_of_taken (F := F) (S := Finset.range 31) (n := 30) (j := 30) (Finset.mem_range.mpr (by decide)) (Nat.le_refl _)); iexact HS

/-! ## The copies -/

omit [FloatOps F] in
/-- What the landing slot holds once device `d`'s block is written there. -/
theorem landed_intro (d : Dev nD) (r : Fin 31) (fd : Buf (Elt F) (rLoc (tgt d r))) :
    ((slotM rM (slotNo r)).view.loc (tgt d r : Thread nD τ) ↦[(slotM rM (slotNo r)).view.set]{fullShare}
        ((slotM rM (slotNo r)).view.write (Elt F) fd ((srcM xM d r).view.read (Elt F) (xstg m d)) Finset.univ))
      ⊢ landed m (tgt d r) r := by
  unfold landed
  iintro H
  iexists _
  isplitr
  rotate_left
  · rw [← slotM_set]; iexact H
  · ipureintro
    rw [src_tgt]
    exact View.read_write_univ _ _

set_option maxHeartbeats 1000000 in
/-- The copy of step `r`, its target named: the block goes to the slot of the target, which has entered. -/
theorem wp_copy_at {Q : α → sProp 𝕄} (d : Dev nD) (r : Fin 31) (a : ℕ) (n : Dev nD) (hn : n = tgt d r)
    {hsc : (slotM rM (slotNo r)).view.ref.isScScratch = false} {hsrc : (srcM xM d r).view.WordExact} {hdst : (slotM rM (slotNo r)).view.WordExact}
    {hsem : DmaTarget.Typed .vmem (.dma (semAt recvA (slotNo r)))
      (.remote (Dev.tc n : Thread nD τ) (slotM rM (slotNo r)) (.dma (semAt sendA (slotNo r))) hsc)} :
    iprop(records m K κ ∗ ow d (Owe d a r.val) ∗ know d (r.val + 1) ∗ xPts m d (tgt d r)
        ∗ dutyTok ER (sendCell d r) 0 0 ∗ dutyTok ER (recvCell (tgt d r) r) 0 0 ∗ Release.writeTok ES (tgt d r, r) 1)
      ⊢ iprop(((cred (tallyAt (sendCell d r) 0 N) ∗ ow d (Owe d a (r.val + 1))) -∗ WP d (k ⟨⟩) Q)
        -∗ WP d (.op (.enqueueDma (srcM xM d r) (.remote (Dev.tc n : Thread nD τ) (slotM rM (slotNo r)) (.dma (semAt sendA (slotNo r))) hsc)
          (.dma (semAt recvA (slotNo r))) hsrc hdst hsem) k) Q) := by
  subst hn
  unfold ow
  iintro ⟨#HR, ⟨%W, HO⟩, Hk, Hx, HtS, HtV, Hw⟩ Hc
  imod (Release.slot_take ES (ι := κ (tgt d r, r)) (k := (tgt d r, r)) (S := freeSlot (tgt d r, r)) (Set.mem_univ _) 1) $$ [Hk Hw] with Hs
  · isplitr; · iapply (slot_of m K κ (tgt d r, r)); iexact HR
    isplitl [Hk]; · iapply (know_released d r); iexact Hk
    iexact Hw
  unfold freeSlot Release.slot
  icases Hs with ⟨%fd, Hs⟩
  iapply (Rounds.wp_send_pointsTo 𝒱₀ ER (exRd m) (d : Thread nD τ) none (c' := (tgt d r : Thread nD τ)) (src := srcM xM d r) (dst := slotM rM (slotNo r))
      (sS := .dma (semAt sendA (slotNo r))) (sem := .dma (semAt recvA (slotNo r)))
      (κ₁ := K (d, .inr (.inl r))) (κ₂ := K (tgt d r, .inr (.inr r)))
      (r₁ := 0) (r₂ := 0) (d₁ := 0) (d₂ := 0) (fs := xstg m d) (fd := fd) (q := fullShare)
      (by rw [duties_send]; exact Finset.mem_singleton_self _) (by rw [duties_recv]; exact Finset.mem_singleton_self _)
      (2 * r.val + 3) 0 N rfl (amount_send m d r 0) (amount_recv m (tgt d r) r 0) (Owe d a (r.val + 1)) (Owe_copy d a r) (W := W)
      (by rw [payload_send, srcM_set]; unfold xPts; exact BI.Entails.refl _)
      (by rw [payload_recv]; exact landed_intro m d r fd)) $$ [HO Hx HtS HtV Hs]
  · isplitr; · iapply (inv_of m K κ d (.inr (.inl r))); iexact HR
    isplitr; · iapply (inv_of m K κ (tgt d r) (.inr (.inr r))); iexact HR
    isplitl [Hx]; · rw [srcM_set]; unfold xPts; iexact Hx
    isplitl [Hs]; · rw [slotM_set]; iexact Hs
    isplitl [HO]; · iexact HO
    isplitl [HtS]; · iexact HtS
    isplitr; · iapply (reached_of m K κ d (.inr (.inl r))); iexact HR
    isplitl [HtV]; · iexact HtV
    iapply (reached_of m K κ (tgt d r) (.inr (.inr r))); iexact HR
  iintro ⟨Hcr, HO⟩
  iapply Hc
  isplitl [Hcr]; · iexact Hcr
  iexists W; iexact HO

/-- The copy of step `r`. -/
theorem wp_copy {Q : α → sProp 𝕄} (d : Dev nD) (r : Fin 31) (a : ℕ) :
    iprop(records m K κ ∗ ow d (Owe d a r.val) ∗ know d (r.val + 1) ∗ xPts m d (tgt d r)
        ∗ dutyTok ER (sendCell d r) 0 0 ∗ dutyTok ER (recvCell (tgt d r) r) 0 0 ∗ Release.writeTok ES (tgt d r, r) 1)
      ⊢ iprop(((cred (tallyAt (sendCell d r) 0 N) ∗ ow d (Owe d a (r.val + 1))) -∗ WP d (k ⟨⟩) Q)
        -∗ WP d (copyP xM (Memref.isWhole_whole _) rM (Memref.isWhole_whole _) sendA recvA d r >>= k) Q) := by
  unfold copyP
  simp only [Prog.lift, Prog.bind_op, Prog.bind_ret, Prog.pure_eq_ret]
  exact wp_copy_at m K κ d r a _ (dst_eq d r)

/-- The wait for the block of step `r`: it has landed, and the cell closes. -/
theorem wp_recv {Q : α → sProp 𝕄} (d : Dev nD) (r : Fin 31) {a b : ℕ} (ha : r.val + 1 ≤ a) (hb : r.val + 1 ≤ b) :
    iprop(records m K κ ∗ ow d (Owe d a b) ∗ cred (tallyAt (recvCell d r) (2 * r.val + 3) N) ∗ atPos ER (recvCell d r) 0 ∅ 0)
      ⊢ iprop(((ow d (Owe d a b) ∗ landed m d r ∗ semVal (recvCell d r) 0) -∗ WP d (k ⟨⟩) Q)
        -∗ WP d (recvP rM (Memref.isWhole_whole _) recvA r >>= k) Q) := by
  unfold recvP
  simp only [Prog.lift, Prog.bind_op, Prog.bind_ret, Prog.pure_eq_ret]
  unfold ow
  iintro ⟨#HR, ⟨%W, HO⟩, Hcr, Hat⟩ Hc
  iapply (Rounds.wp_wait_rest_token 𝒱₀ ER (exRd m) (d : Thread nD τ) none (κ := K (d, .inr (.inr r))) (sm := .dma (semAt recvA (slotNo r)))
      (wpE_waitDma2_eq 𝒱₀ (d : Thread nD τ) none Set.univ) (Set.mem_univ _) (2 * r.val + 3) (O := Owe d a b) (W := W) (R := 0) (m := 0) (T := ∅)
      (by rw [Nat.zero_add, expect_recv])) $$ [HO Hcr Hat]
  · isplitr; · iapply (inv_of m K κ d (.inr (.inr r))); iexact HR
    isplitl [Hcr]; · iexact Hcr
    isplitl [HO]; · iexact HO
    isplitr
    · iapply (mayWait_of m K κ d (.dma (semAt recvA (slotNo r))) (a := a) (b := b) (2 * r.val + 3) (by omega) (by omega) (by omega)); iexact HR
    iexact Hat
  iintro ⟨HO, Hat, -, Hp⟩
  ihave Hl := (Entails.of_eq (rest_recv m d r)) $$ Hp
  imod (Rounds.cell_close ER (exRd m) (Set.mem_univ (K (d, .inr (.inr r)))) (fun h => h) (R := 0 + 1) (duties_later m (recvCell d r))) $$ [Hat] with Hz
  · isplitr; · iapply (inv_of m K κ d (.inr (.inr r))); iexact HR
    iexact Hat
  iapply Hc
  isplitl [HO]; · iexists _; iexact HO
  isplitl [Hl] <;> iassumption

/-- The wait for the block that went out in step `r`: it is the device's again, and the cell closes. -/
theorem wp_sent {Q : α → sProp 𝕄} (d : Dev nD) (r : Fin 31) :
    iprop(records m K κ ∗ ow d 0 ∗ cred (tallyAt (sendCell d r) 0 N) ∗ atPos ER (sendCell d r) 0 ∅ 0)
      ⊢ iprop(((ow d 0 ∗ xPts m d (tgt d r) ∗ semVal (sendCell d r) 0) -∗ WP d (k ⟨⟩) Q)
        -∗ WP d (sentP xM (Memref.isWhole_whole _) rM (Memref.isWhole_whole _) sendA d r >>= k) Q) := by
  unfold sentP
  simp only [Prog.lift, Prog.bind_op, Prog.bind_ret, Prog.pure_eq_ret]
  unfold ow
  iintro ⟨#HR, ⟨%W, HO⟩, Hcr, Hat⟩ Hc
  iapply (Rounds.wp_wait_rest_token 𝒱₀ ER (exRd m) (d : Thread nD τ) none (κ := K (d, .inr (.inl r))) (sm := .dma (semAt sendA (slotNo r)))
      (wpE_waitDma2_eq 𝒱₀ (d : Thread nD τ) none Set.univ) (Set.mem_univ _) 0 (O := 0) (W := W) (R := 0) (m := 0) (T := ∅)
      (by rw [Nat.zero_add, expect_send])) $$ [HO Hcr Hat]
  · isplitr; · iapply (inv_of m K κ d (.inr (.inl r))); iexact HR
    isplitl [Hcr]; · iexact Hcr
    isplitl [HO]; · iexact HO
    isplitr; · rw [MayWait_zero]; iempintro
    iexact Hat
  iintro ⟨HO, Hat, -, Hp⟩
  ihave Hl := (Entails.of_eq (rest_send m d r)) $$ Hp
  imod (Rounds.cell_close ER (exRd m) (Set.mem_univ (K (d, .inr (.inl r)))) (fun h => h) (R := 0 + 1) (duties_later m (sendCell d r))) $$ [Hat] with Hz
  · isplitr; · iapply (inv_of m K κ d (.inr (.inl r))); iexact HR
    iexact Hat
  iapply Hc
  isplitl [HO]; · iexists _; iexact HO
  isplitl [Hl] <;> iassumption

end Cert.Exch

end
-- ==== Proof.Reads.lean ====
/-
  The reads of the kernel: what a device reads of its operand, its weights, a landed block and its scales, as rows of
  the staged arrays; and the two stores, of the own block into slot 0 and of the result.
-/
module

public import proofs.«01_k».proof.Proof.Step
public import Idealize.ShloMosaic.Lib.Pipeline.Value

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Rows of the staged arrays -/

/-- Row block `b` of device `c`'s operand; -/
def xrow (c b : Dev nD) : Vec F S128x128 .i8 :=
  (xM.access (Rect.unit (s := S4096x128) ![128 * b.val, 0] S128x128.size (inb_blk b))).read (Elt F) (xstg m c)

theorem inb_wblk (b : Dev nD) : ∀ a, (![128 * b.val, 0] : Fin 2 → Nat) a + S128x8192.size a ≤ S4096x8192.size a := by
  have h := b.isLt; have e : nD = 32 := rfl
  intro a; fin_cases a
  · show 128 * b.val + 128 ≤ 4096; omega
  · show 0 + 8192 ≤ 8192; omega

/-- row block `b` of its weights. -/
def wrow (c b : Dev nD) : Vec F S128x8192 .i8 :=
  (wM.access (Rect.unit (s := S4096x8192) ![128 * b.val, 0] S128x8192.size (inb_wblk b))).read (Elt F) (wstg m c)

/-- The block sent in step `k` is the row block of its target. -/
theorem xblk_eq (e : Dev nD) (k : Fin 31) : xblk m e k = xrow m e (tgt e k) := by
  unfold xblk xrow
  have h : k0_off3 e (BitVec.ofNat 32 (1 + k.val)) = ![128 * (tgt e k).val, 0] := by
    rw [k0_off3_eq, sh_val]; congr 3; omega
  generalize_proofs p1 p2 at *
  have aux : ∀ (off : Fin 2 → Nat) (hoff : off = ![128 * (tgt e k).val, 0]) (p : ∀ a, off a + S128x128.size a ≤ S4096x128.size a),
      (xM.slice (Rect.unit (s := S4096x128) off S128x128.size p) (fun _ => rfl)).view.read (Elt F) (xstg m e)
        = (xM.access (Rect.unit (s := S4096x128) ![128 * (tgt e k).val, 0] S128x128.size (inb_blk (tgt e k)))).read (Elt F) (xstg m e) := by
    rintro off rfl p; rfl
  exact aux _ h _

/-- What comes in at step `k` is the own row block of the device it comes from. -/
theorem xblk_src (d : Dev nD) (k : Fin 31) : xblk m (src d k) k = xrow m (src d k) d := by
  rw [xblk_eq, tgt_src]

/-- A read of 128 rows of the operand; -/
theorem read_x (c b : Dev nD) {off : Fin 2 → Nat} (h : off = ![128 * b.val, 0]) (p : ∀ a, off a + S128x128.size a ≤ S4096x128.size a) :
    xM.view.readAt (Elt F) (Rect.unit (s := S4096x128) off S128x128.size p).toLoadRect (xstg m c) = xrow m c b := by
  subst h; rfl
/-- of the weights. -/
theorem read_w (c b : Dev nD) {off : Fin 2 → Nat} (h : off = ![128 * b.val, 0]) (p : ∀ a, off a + S128x8192.size a ≤ S4096x8192.size a) :
    wM.view.readAt (Elt F) (Rect.unit (s := S4096x8192) off S128x8192.size p).toLoadRect (wstg m c) = wrow m c b := by
  subst h; rfl

omit [FloatOps F] in
/-- Reading through a reshaped view at a position reshaped back is reading through the view. -/
theorem read_reshape {sp : Space} {s s' : Shape} {e : EltTy} (v : View sig .tc sp s e) (h : s'.numel = s.numel) (h' : s.numel = s'.numel)
    (f : v.ty.Contents (Elt F)) (j : s.Idx) :
    (v.reshape s' h).read (Elt F) f (Shape.reshapeEquiv h' j) = v.read (Elt F) f j := by
  have hj : Shape.reshapeEquiv h (Shape.reshapeEquiv h' j) = j := by
    rw [Shape.reshapeEquiv_reshapeEquiv, Shape.reshapeEquiv_self]
  have : (v.reshape s' h).read (Elt F) f (Shape.reshapeEquiv h' j) = v.read (Elt F) f (Shape.reshapeEquiv h (Shape.reshapeEquiv h' j)) := rfl
  rw [this, hj]

/-- A block as the kernel lays it into a slot. -/
theorem pay1_eq (x : Vec F S128x128 .i8) : k0_pay1 (F := F) x = shapeCast S1x128x128 x shapeCasts_S128x128_S1x128x128 := by
  unfold k0_pay1
  exact (shapeCast_self _ _).trans (congrArg (fun y => shapeCast S1x128x128 y shapeCasts_S128x128_S1x128x128) (shapeCast_self x _))

/-- Reading slot `k` as it lies in the buffer is reading it as a matrix and laying that out. -/
theorem read_slot (c : Dev nD) (k : Fin 32) (f : Buf (Elt F) (rLoc c)) :
    rM.view.readAt (Elt F) (Rect.unit (s := S32x128x128) ![k.val, 0, 0] S1x128x128.size (inb_slot k)).toLoadRect f
      = k0_pay1 (F := F) ((slotM rM k).view.read (Elt F) f) := by
  rw [pay1_eq]
  exact funext fun j => (read_reshape (F := F) (rM.slice (Rect.unit (s := S32x128x128) ![k.val, 0, 0] S1x128x128.size (inb_slot k)) (fun _ => rfl)).view
    _ shapeCasts_S128x128_S1x128x128 f j).symm

theorem slot_loads (k : Fin 32) :
    rM.view.setOn (Rect.unit (s := S32x128x128) ![k.val, 0, 0] S1x128x128.size (inb_slot k)).toLoadRect.set ⊆ slotSet k := by
  unfold slotSet
  intro i hi
  obtain ⟨x, hx, rfl⟩ := Finset.mem_map.mp hi
  exact hx

/-! ## The reads and stores, run -/

abbrev wLoc (c : Dev nD) : Loc nD τ sig := (c : Thread nD τ).loc cc0_stg1_0
abbrev sLoc (c : Dev nD) : Loc nD τ sig := (c : Thread nD τ).loc cc0_stg2_0
abbrev tLoc (c : Dev nD) : Loc nD τ sig := (c : Thread nD τ).loc cc0_stg3_0
abbrev oLoc (c : Dev nD) : Loc nD τ sig := (c : Thread nD τ).loc cc0_stg4_0

/-- The one position of a scale. -/
abbrev one : S1.Idx := Shape.Idx.first (by decide)

/-- The landed block of step `r` is read. -/
theorem wp_slot {α : Type} {k : Vec F S1x128x128 .i8 → Prog (TpuEff nD τ sig (Elt F) Λ₀ .tc) α} {Q : α → sProp 𝕄} (d : Dev nD) (r : Fin 31) :
    landed m d r ⊢ iprop((landed m d r -∗ WP d (k (k0_pay1 (F := F) (xrow m (src d r) d))) Q) -∗ WP d (loadSlot rM (slotNo r) >>= k) Q) := by
  unfold loadSlot landed
  simp only [Prog.lift, Prog.bind_op, Prog.bind_ret, Prog.pure_eq_ret]
  iintro ⟨%f, %hf, H⟩ Hc
  iapply (wp_load 𝒱₀ (d : Thread nD τ) none Set.univ (m := rM) (slot_loads (slotNo r))) $$ H
  iintro H
  rw [read_slot d (slotNo r) f, hf, xblk_src]
  iapply Hc
  iexists f
  isplitr; · ipureintro; exact hf.trans (xblk_src m d r)
  iexact H

/-- The weight block of step `r` is read: its rows are numbered by the device the block came from. -/
theorem wp_w {α : Type} {k : Vec F S128x8192 .i8 → Prog (TpuEff nD τ sig (Elt F) Λ₀ .tc) α} {Q : α → sProp 𝕄} (d : Dev nD) (r : Fin 31) :
    (wLoc d ↦{fullShare} wstg m d : sProp 𝕄)
      ⊢ iprop(((wLoc d ↦{fullShare} wstg m d) -∗ WP d (k (wrow m d (src d r))) Q) -∗ WP d (loadW wM d r >>= k) Q) := by
  unfold loadW
  simp only [Prog.lift, Prog.bind_op, Prog.bind_ret, Prog.pure_eq_ret]
  iintro H Hc
  iapply (wp_load 𝒱₀ (d : Thread nD τ) none Set.univ (m := wM) (Finset.subset_univ _)) $$ H
  iintro H
  rw [read_w m d (src d r) ((k0_off4_eq d (wNo r)).trans (by rw [sh_val]; congr 3; simp only; omega))]
  iapply Hc; iexact H

/-- Slot 0 of a device's landing buffer, at some contents. -/
def slot0 (d : Dev nD) : sProp 𝕄 := iprop(∃ f : Buf (Elt F) (rLoc d), rLoc d ↦[slotSet 0]{fullShare} f)

/-- The own block goes through slot 0, and its product with the own rows of the weights is computed. -/
theorem wp_own {α : Type} {k : IVec S128x8192 32 → Prog (TpuEff nD τ sig (Elt F) Λ₀ .tc) α} {Q : α → sProp 𝕄} (d : Dev nD) :
    iprop((xLoc d ↦{fullShare} xstg m d) ∗ (wLoc d ↦{fullShare} wstg m d) ∗ slot0 d)
      ⊢ iprop((((xLoc d ↦{fullShare} xstg m d) ∗ (wLoc d ↦{fullShare} wstg m d) ∗ slot0 d)
          -∗ WP d (k (k0_pay2 (F := F) (k0_pay1 (F := F) (xrow m d d)) (wrow m d d))) Q)
        -∗ WP d (ownP xM wM rM (Memref.isWhole_whole _) d >>= k) Q) := by
  unfold ownP loadSlot slot0
  simp only [Prog.lift, Prog.bind_op, Prog.bind_ret, Prog.pure_eq_ret]
  iintro ⟨Hx, Hw, ⟨%f, Hs⟩⟩ Hc
  iapply (wp_load 𝒱₀ (d : Thread nD τ) none Set.univ (m := xM) (Finset.subset_univ _)) $$ Hx; iintro Hx
  rw [read_x m d d (k0_off1_eq d)]
  iapply (wp_load 𝒱₀ (d : Thread nD τ) none Set.univ (m := rM) (slot_loads 0)) $$ Hs; iintro Hs
  iapply (wp_store 𝒱₀ (d : Thread nD τ) none Set.univ (m := rM) (Mk := Finset.univ)
    (r := Rect.unit (s := S32x128x128) ![0, 0, 0] S1x128x128.size inb_S32x128x128_S1x128x128_0_0_0) (by rw [View.setOn_univ]; exact (View.set_slice_whole _ _).subset)) $$ Hs; iintro Hs
  iapply (wp_load 𝒱₀ (d : Thread nD τ) none Set.univ (m := rM) (slot_loads 0)) $$ Hs; iintro Hs
  have hr (w : Vec F S1x128x128 .i8) : rM.view.readAt (Elt F) (Rect.unit (s := S32x128x128) ![(0 : Fin 32).val, 0, 0] S1x128x128.size (inb_slot 0)).toLoadRect
      ((rM.access (Rect.unit (s := S32x128x128) ![0, 0, 0] S1x128x128.size inb_S32x128x128_S1x128x128_0_0_0)).write (Elt F) f w Finset.univ) = w :=
    View.read_write_univ (v := rM.access (Rect.unit (s := S32x128x128) ![0, 0, 0] S1x128x128.size inb_S32x128x128_S1x128x128_0_0_0)) _ _
  rw [hr]
  iapply (wp_load 𝒱₀ (d : Thread nD τ) none Set.univ (m := wM) (Finset.subset_univ _)) $$ Hw; iintro Hw
  rw [read_w m d d (k0_off2_eq d)]
  iapply Hc
  isplitl [Hx]; · iexact Hx
  isplitl [Hw]; · iexact Hw
  iexists _; iexact Hs

/-- The one word of a scalar buffer is read. -/
theorem wp_word {α : Type} {k : Elt F .f32 → Prog (TpuEff nD τ sig (Elt F) Λ₀ .tc) α} {Q : α → sProp 𝕄} (d : Dev nD)
    (M : Memref sig .tc .smem S1 .f32) (f : Buf (Elt F) (M.view.loc (d : Thread nD τ))) (x : Elt F .f32)
    (hx : M.view.readAt (Elt F) (Rect.unit (s := S1) ![0] S1.size inb_S1_S1_0).toLoadRect f one = x) :
    (M.view.loc (d : Thread nD τ) ↦{fullShare} f : sProp 𝕄)
      ⊢ iprop(((M.view.loc (d : Thread nD τ) ↦{fullShare} f) -∗ WP d (k x) Q)
        -∗ WP d (smemLoad M (Rect.unit (s := S1) ![0] S1.size inb_S1_S1_0) numel1_S1 rfl >>= k) Q) := by
  subst hx
  unfold smemLoad smemLoadElt
  simp only [Prog.lift, Prog.bind_op, Prog.bind_ret, Prog.pure_eq_ret]
  iintro H Hc
  iapply (wp_load 𝒱₀ (d : Thread nD τ) none Set.univ (m := M) (Finset.subset_univ _)) $$ H
  iintro H
  iapply Hc; iexact H

/-- The result is scaled and stored. -/
theorem wp_out {α : Type} {k : PUnit.{1} → Prog (TpuEff nD τ sig (Elt F) Λ₀ .tc) α} {Q : α → sProp 𝕄} (d : Dev nD)
    (acc : IVec S128x8192 32) (l : Vec F S1x128x128 .i8) (w : Vec F S128x8192 .i8) :
    iprop((sLoc d ↦{fullShare} sstg m d) ∗ (tLoc d ↦{fullShare} tstg m d) ∗ ∃ f : Buf (Elt F) (oLoc d), oLoc d ↦{fullShare} f)
      ⊢ iprop((((sLoc d ↦{fullShare} sstg m d) ∗ (tLoc d ↦{fullShare} tstg m d) ∗ oLoc d ↦{fullShare} k0_pay38 acc l w (sstg m d one) (tstg m d one))
          -∗ WP d (k ⟨⟩) Q)
        -∗ WP d (outP sM tM oM acc l w >>= k) Q) := by
  unfold outP
  simp only [Prog.bind_assoc]
  iintro ⟨Hs, Ht, ⟨%f, Ho⟩⟩ Hc
  iapply (wp_word d sM (sstg m d) (sstg m d one) (congrFun (Memref.readAt_unit_zero (Elt F) cc0_stg2_0 (by funext a; fin_cases a; rfl) _ _) one)) $$ Hs
  iintro Hs
  iapply (wp_word d tM (tstg m d) (tstg m d one) (congrFun (Memref.readAt_unit_zero (Elt F) cc0_stg3_0 (by funext a; fin_cases a; rfl) _ _) one)) $$ Ht
  iintro Ht
  simp only [Prog.lift, Prog.bind_op, Prog.bind_ret, Prog.pure_eq_ret]
  iapply (wp_load 𝒱₀ (d : Thread nD τ) none Set.univ (m := oM) (Finset.subset_univ _)) $$ Ho; iintro Ho
  iapply (wp_store 𝒱₀ (d : Thread nD τ) none Set.univ (m := oM) (Mk := Finset.univ)
    (r := Rect.unit (s := S128x8192) ![0, 0] S128x8192.size inb_S128x8192_S128x8192_0_0) (Finset.subset_univ _)) $$ Ho; iintro Ho
  have hw (g : Vec F S128x8192 .f32) : (oM.access (Rect.unit (s := S128x8192) ![0, 0] S128x8192.size inb_S128x8192_S128x8192_0_0)).write (Elt F) f g Finset.univ = g :=
    Memref.write_access_unit_zero_univ (Elt F) cc0_stg4_0 (by funext a; fin_cases a <;> rfl) _ f g
  rw [hw]
  iapply Hc
  isplitl [Hs]; · iexact Hs
  isplitl [Ht]; · iexact Ht
  iexact Ho

end Cert.Exch

end
-- ==== Proof.Body.lean ====
/-
  The body of the kernel at a symbolic device: the transfer of one step, the 30 steps with a signal by induction, the
  31 waits for what went out by induction, and the whole.
-/
module

public import proofs.«01_k».proof.Proof.Reads

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

variable (K : Dev nD × CI → ℕ) (κ : Key → ℕ)

/-! ## Values -/

/-- The accumulator before step `r`. -/
def accV (d : Dev nD) : ℕ → IVec S128x8192 32
  | 0 => k0_pay2 (F := F) (k0_pay1 (F := F) (xrow m d d)) (wrow m d d)
  | r + 1 => k0_pay3 (F := F) (accV d r) (k0_pay1 (F := F) (xrow m (sh d (31 - r)) d)) (wrow m d (sh d (31 - r)))

/-- The result. -/
def outV (d : Dev nD) : FVec F S128x8192 .f32 :=
  k0_pay38 (accV m d 30) (k0_pay1 (F := F) (xrow m (src d 30) d)) (wrow m d (src d 30)) (sstg m d one) (tstg m d one)

/-! ## What a step holds -/

/-- What the transfer of step `k` takes. -/
def xfer (d : Dev nD) (k : Fin 31) : sProp 𝕄 :=
  iprop(atPos ER (recvCell d k) 0 ∅ 0 ∗ cred (tallyAt (recvCell d k) (2 * k.val + 3) N) ∗ atPos ER (sendCell d k) 0 ∅ 0
    ∗ dutyTok ER (recvCell (tgt d k) k) 0 0 ∗ dutyTok ER (sendCell d k) 0 0 ∗ Release.writeTok ES (tgt d k, k) 1)
/-- What step `k` takes: that, its block and the credit of its barrier wait. -/
def before (d : Dev nD) (k : Fin 31) : sProp 𝕄 :=
  iprop(xfer d k ∗ cred (tallyAt (barCell d) (2 * k.val + 2) 1) ∗ xPts m d (tgt d k))
/-- What step `k` leaves: the landed block, its cell closed, and the wait for the block sent still to come. -/
def after (d : Dev nD) (k : Fin 31) : sProp 𝕄 :=
  iprop(landed m d k ∗ semVal (recvCell d k) 0 ∗ atPos ER (sendCell d k) 0 ∅ 0 ∗ cred (tallyAt (sendCell d k) 0 N))
/-- What is left once that wait is over. -/
def done (d : Dev nD) (k : Fin 31) : sProp 𝕄 :=
  iprop(landed m d k ∗ semVal (recvCell d k) 0 ∗ xPts m d (tgt d k) ∗ semVal (sendCell d k) 0)
/-- The right to signal number `k`. -/
def sigTok (d : Dev nD) (k : Fin 31) : sProp 𝕄 := dutyTok ER (barCell (prv d)) 0 k.val

/-- Device `d`'s weights, staged. -/
def wPts (d : Dev nD) : sProp 𝕄 := wLoc d ↦{fullShare} wstg m d

/-- The transfer of step `r` and its two reads. -/
theorem wp_xfer {α : Type} {k : Vec F S1x128x128 .i8 × Vec F S128x8192 .i8 → Prog (TpuEff nD τ sig (Elt F) Λ₀ .tc) α} {Q : α → sProp 𝕄}
    (d : Dev nD) (r : Fin 31) {a : ℕ} (ha : r.val + 1 ≤ a) :
    iprop(records m K κ ∗ ow d (Owe d a r.val) ∗ know d (r.val + 1) ∗ xfer d r ∗ xPts m d (tgt d r) ∗ wPts m d)
      ⊢ iprop(((ow d (Owe d a (r.val + 1)) ∗ after m d r ∗ wPts m d) -∗ WP d (k (k0_pay1 (F := F) (xrow m (src d r) d), wrow m d (src d r))) Q)
        -∗ WP d (xferP xM (Memref.isWhole_whole _) wM rM (Memref.isWhole_whole _) sendA recvA d r >>= k) Q) := by
  unfold xferP xfer after wPts
  simp only [Prog.bind_assoc]
  iintro ⟨#HR, HO, Hk, ⟨HaR, HcR, HaS, HtR, HtS, Hw⟩, Hx, HW⟩ Hc
  iapply (wp_copy m K κ d r a) $$ [HO Hk Hx HtS HtR Hw]
  · isplitr; · iexact HR
    isplitl [HO]; · iexact HO
    isplitl [Hk]; · iexact Hk
    isplitl [Hx]; · iexact Hx
    isplitl [HtS]; · iexact HtS
    isplitl [HtR] <;> iassumption
  iintro ⟨HcS, HO⟩
  iapply (wp_recv m K κ d r ha (Nat.le_refl _)) $$ [HO HcR HaR]
  · isplitr; · iexact HR
    isplitl [HO]; · iexact HO
    isplitl [HcR] <;> iassumption
  iintro ⟨HO, Hl, HzR⟩
  iapply (wp_slot m d r) $$ Hl
  iintro Hl
  iapply (wp_w m d r) $$ HW
  iintro HW
  simp only [Prog.bind_ret, Prog.pure_eq_ret]
  iapply Hc
  isplitl [HO]; · iexact HO
  isplitr [HW]
  · isplitl [Hl]; · iexact Hl
    isplitl [HzR]; · iexact HzR
    isplitl [HaS] <;> iassumption
  iexact HW

/-- The steps from step `r` to step 29: each waits for one more signal, passes one on, and transfers. -/
theorem wp_steps {α : Type} {k : IVec S128x8192 32 → Prog (TpuEff nD τ sig (Elt F) Λ₀ .tc) α} {Q : α → sProp 𝕄} (d : Dev nD) :
    ∀ (n r : ℕ) (h : n + r ≤ 30) (e : n + r = 30),
      iprop(records m K κ ∗ entered d ∗ ow d (Owe d (r + 1) r) ∗ barState d r ∗ wPts m d ∗ bigSep (ge r) (before m d)
          ∗ bigSep (ge (r + 1)) (sigTok (F := F) d) ∗ bigSep (lt r) (after m d))
        ⊢ iprop(((ow d (Owe d 31 30) ∗ barState d 30 ∗ wPts m d ∗ bigSep (ge 30) (before m d) ∗ bigSep (lt 30) (after m d))
            -∗ WP d (k (accV m d 30)) Q)
          -∗ WP d (stepsP xM (Memref.isWhole_whole _) wM rM (Memref.isWhole_whole _) sendA recvA d n r h (accV m d r) >>= k) Q)
  | 0, r, h, e => by
    obtain rfl : r = 30 := by omega
    unfold stepsP
    simp only [Prog.bind_ret, Prog.pure_eq_ret]
    iintro ⟨-, -, HO, Hb, HW, Hf, -, Ha⟩ Hc
    iapply Hc
    isplitl [HO]; · iexact HO
    isplitl [Hb]; · iexact Hb
    isplitl [HW]; · iexact HW
    isplitl [Hf] <;> iassumption
  | n + 1, r, h, e => by
    have hr : r < 31 := by omega
    have hr1 : r + 1 < 31 := by omega
    have hbar : (⟨r, hr⟩ : Fin 31).val + 1 ≤ r + 1 := Nat.le_refl _
    have hle : (⟨r, hr⟩ : Fin 31).val ≤ r := Nat.le_refl _
    have hx : (⟨r, hr⟩ : Fin 31).val + 1 ≤ r + 2 := Nat.le_succ _
    unfold stepsP
    simp only [Prog.bind_assoc]
    rw [sep_ge (before m d) hr, sep_ge (sigTok (F := F) d) hr1]
    unfold before sigTok
    iintro ⟨#HR, #He, HO, Hb, HW, ⟨⟨Hx, HcB, HxP⟩, Hf⟩, ⟨Ht, Hs⟩, Ha⟩ Hc
    iapply (wp_bar m K κ d ⟨r, hr⟩ hbar hle) $$ [HO HcB Hb]
    · isplitr; · iexact HR
      isplitl [HO]; · iexact HO
      isplitl [HcB] <;> iassumption
    iintro ⟨HO, Hb, #Hk⟩
    iapply (wp_sig m K κ d r hr1) $$ [HO Ht]
    · isplitr; · iexact HR
      isplitl [HO]; · iexact HO
      isplitl [Ht]; · iexact Ht
      isplitr; · iexact He
      iexact Hk
    iintro HO
    iapply (wp_xfer m K κ d ⟨r, hr⟩ hx) $$ [HO Hx HxP HW]
    · isplitr; · iexact HR
      isplitl [HO]; · iexact HO
      isplitr; · iexact Hk
      isplitl [Hx]; · iexact Hx
      isplitl [HxP] <;> iassumption
    iintro ⟨HO, Haf, HW⟩
    iapply (wp_steps d n (r + 1) (by omega) (by omega)) $$ [HO Hb HW Hf Hs Ha Haf]
    · isplitr; · iexact HR
      isplitr; · iexact He
      isplitl [HO]; · iexact HO
      isplitl [Hb]; · iexact Hb
      isplitl [HW]; · iexact HW
      isplitl [Hf]; · unfold before; iexact Hf
      isplitl [Hs]; · unfold sigTok; iexact Hs
      rw [sep_lt _ hr]
      isplitl [Haf] <;> iassumption
    iexact Hc

/-- The waits for what went out, from step `r` on. -/
theorem wp_sents {α : Type} {k : PUnit.{1} → Prog (TpuEff nD τ sig (Elt F) Λ₀ .tc) α} {Q : α → sProp 𝕄} (d : Dev nD) :
    ∀ (n r : ℕ) (h : n + r ≤ 31) (e : n + r = 31),
      iprop(records m K κ ∗ ow d 0 ∗ bigSep (ge r) (after m d) ∗ bigSep (lt r) (done m d))
        ⊢ iprop(((ow d 0 ∗ bigSep Finset.univ (done m d)) -∗ WP d (k ⟨⟩) Q)
          -∗ WP d (sentsP xM (Memref.isWhole_whole _) rM (Memref.isWhole_whole _) sendA d n r h >>= k) Q)
  | 0, r, h, e => by
    obtain rfl : r = 31 := by omega
    unfold sentsP
    rw [lt_last]
    simp only [Prog.bind_ret, Prog.pure_eq_ret]
    iintro ⟨-, HO, -, Ha⟩ Hc
    iapply Hc
    isplitl [HO] <;> iassumption
  | n + 1, r, h, e => by
    have hr : r < 31 := by omega
    unfold sentsP
    simp only [Prog.bind_assoc]
    rw [sep_ge _ hr]
    unfold after
    iintro ⟨#HR, HO, ⟨⟨Hl, Hz, Hat, Hcr⟩, Hf⟩, Hd⟩ Hc
    iapply (wp_sent m K κ d ⟨r, hr⟩) $$ [HO Hcr Hat]
    · isplitr; · iexact HR
      isplitl [HO]; · iexact HO
      isplitl [Hcr] <;> iassumption
    iintro ⟨HO, Hx, HzS⟩
    have h' : n + (r + 1) ≤ 31 := by omega
    have e' : n + (r + 1) = 31 := by omega
    iapply (wp_sents d n (r + 1) h' e') $$ [HO Hl Hz Hf Hd Hx HzS]
    · isplitr; · iexact HR
      isplitl [HO]; · iexact HO
      isplitl [Hf]; · unfold after; iexact Hf
      rw [sep_lt _ hr]
      isplitr [Hd]
      · unfold done
        isplitl [Hl]; · iexact Hl
        isplitl [Hz]; · iexact Hz
        isplitl [Hx] <;> iassumption
      iexact Hd
    iexact Hc

/-! ## The blocks of the two buffers, by distance -/

omit [FloatOps F] in
/-- The 32 distances: 0, and one per step. -/
theorem sep_distances (Φ : Fin 32 → sProp 𝕄) : bigSep Finset.univ Φ = iprop(Φ 0 ∗ bigSep Finset.univ fun k : Fin 31 => Φ (slotNo k)) := by
  have h : (Finset.univ : Finset (Fin 32)) = insert 0 (Finset.univ.map ⟨slotNo, fun a b h => Fin.ext (by have := congrArg Fin.val h; simp only at this; omega)⟩) := by
    decide
  rw [h, bigSep_insert (by decide), bigSep_map]
  rfl

theorem sh_inj (d : Dev nD) {i j : Fin 32} (h : sh d i.val = sh d j.val) : i = j := by
  have := congrArg Fin.val h
  rw [sh_val, sh_val] at this
  apply Fin.ext
  have := d.isLt; have e : nD = 32 := rfl
  omega

theorem xSet_disjoint (b b' : Dev nD) (h : b ≠ b') : Disjoint (xSet b) (xSet b') :=
  Ring.lead_disjoint (s := S4096x128) (NB := 32) 0 128 (fun b => ![128 * b.val, 0]) S128x128.size inb_blk (fun _ => rfl) rfl b b' h
theorem xSet_cover : Finset.univ.biUnion xSet = Finset.univ :=
  Ring.lead_cover (s := S4096x128) (NB := 32) 0 128 (fun b => ![128 * b.val, 0]) S128x128.size inb_blk (fun _ => rfl)
    (fun b a ha => by fin_cases a; · exact absurd rfl ha
                      · rfl) rfl (fun a ha => by fin_cases a; · exact absurd rfl ha
                                                 · rfl) rfl
theorem slotSet_disjoint (b b' : Fin 32) (h : b ≠ b') : Disjoint (slotSet b) (slotSet b') :=
  Ring.lead_disjoint (s := S32x128x128) (NB := 32) 0 1 (fun b => ![b.val, 0, 0]) S1x128x128.size inb_slot (fun b => (Nat.one_mul _).symm) rfl b b' h
theorem slotSet_cover : Finset.univ.biUnion slotSet = Finset.univ :=
  Ring.lead_cover (s := S32x128x128) (NB := 32) 0 1 (fun b => ![b.val, 0, 0]) S1x128x128.size inb_slot (fun b => (Nat.one_mul _).symm)
    (fun b a ha => by fin_cases a; · exact absurd rfl ha
                      · rfl
                      · rfl) rfl (fun a ha => by fin_cases a; · exact absurd rfl ha
                                                 · rfl
                                                 · rfl) rfl

/-- A device's row blocks by distance from it. -/
theorem xSet_sh_cover (d : Dev nD) : Finset.univ.biUnion (fun j : Fin 32 => xSet (sh d j.val)) = Finset.univ := by
  rw [← xSet_cover]
  ext i
  simp only [Finset.mem_biUnion, Finset.mem_univ, true_and]
  constructor
  · rintro ⟨j, h⟩; exact ⟨_, h⟩
  · rintro ⟨b, h⟩
    refine ⟨⟨(b.val + 32 - d.val) % 32, Nat.mod_lt _ (by decide)⟩, ?_⟩
    have : sh d ((b.val + 32 - d.val) % 32) = b := by
      apply Fin.ext; rw [sh_val]
      have := d.isLt; have := b.isLt; have e : nD = 32 := rfl
      omega
    rw [this]; exact h

/-- The staged operand is its own block and the blocks that the steps send. -/
theorem x_blocks (d : Dev nD) : (xLoc d ↦{fullShare} xstg m d : sProp 𝕄) = iprop(xPts m d (sh d 0) ∗ bigSep Finset.univ fun k : Fin 31 => xPts m d (tgt d k)) := by
  rw [Ring.pointsTo_blocks (fun j : Fin 32 => xSet (sh d j.val)) (fun b b' h => xSet_disjoint _ _ fun e => h (sh_inj d e)) (xSet_sh_cover d), sep_distances]
  rfl

omit [FloatOps F] in
theorem free_intro (d : Dev nD) (k : Fin 31) (f : Buf (Elt F) (rLoc d)) :
    (rLoc d ↦[slotSet (slotNo k)]{fullShare} f : sProp 𝕄) ⊢ freeSlot (F := F) (d, k) := by
  unfold freeSlot Release.slot
  iintro H; iexists f; iexact H

omit [FloatOps F] in
theorem landed_some (d : Dev nD) (k : Fin 31) :
    landed m d k ⊢ (iprop(∃ f : Buf (Elt F) (rLoc d), rLoc d ↦[slotSet (slotNo k)]{fullShare} f) : sProp 𝕄) := by
  unfold landed
  iintro ⟨%f, -, H⟩
  iexists f; iexact H

/-- The landing buffer is slot 0 and the slots that are handed out; -/
theorem scr_split (d : Dev nD) : (iprop(∃ f : Buf (Elt F) (rLoc d), rLoc d ↦{fullShare} f) : sProp 𝕄)
    ⊢ iprop(slot0 d ∗ bigSep Finset.univ fun k : Fin 31 => freeSlot (d, k)) := by
  unfold slot0
  iintro ⟨%f, H⟩
  ihave H := (Entails.of_eq ((Ring.pointsTo_blocks slotSet slotSet_disjoint slotSet_cover f).trans (sep_distances _))) $$ H
  icases H with ⟨H0, H⟩
  isplitl [H0]; · iexists f; iexact H0
  have hm : (bigSep Finset.univ fun k : Fin 31 => (rLoc d ↦[slotSet (slotNo k)]{fullShare} f : sProp 𝕄)) ⊢ bigSep Finset.univ fun k : Fin 31 => freeSlot (F := F) (d, k) :=
    bigSep_mono fun k _ => free_intro d k f
  iapply hm; iexact H

/-- and they make it up again. -/
theorem scr_join (d : Dev nD) : iprop(slot0 (F := F) d ∗ bigSep Finset.univ fun k : Fin 31 => landed m d k)
    ⊢ (iprop(∃ f : Buf (Elt F) (rLoc d), rLoc d ↦{fullShare} f) : sProp 𝕄) := by
  refine BI.Entails.trans ?_ (Ring.pointsTo_blocks_join_exists slotSet slotSet_disjoint slotSet_cover (fun _ => Classical.arbitrary _))
  rw [sep_distances]
  exact BI.sep_mono (BI.Entails.refl _) (bigSep_mono fun k _ => landed_some m d k)

/-! ## The whole body -/

theorem slot_nonempty (k : Fin 32) : (slotSet k).Nonempty := by
  rw [← slotM_set]; exact View.set_nonempty (by decide)

/-- A device gives up its landing slots: it has entered. -/
theorem enter (d : Dev nD) :
    iprop(records m K κ ∗ (bigSep Finset.univ fun k : Fin 31 => Release.readerAt ES (d, k) 0) ∗ bigSep Finset.univ fun k : Fin 31 => freeSlot (d, k))
      ⊢ (|={Set.univ}=> entered d : sProp 𝕄) := by
  have one (k : Fin 31) : iprop(records m K κ ∗ Release.readerAt ES (d, k) 0 ∗ freeSlot (d, k))
      ⊢ (|={Set.univ}=> Release.released ES (d, k) 1 : sProp 𝕄) := by
    iintro ⟨#HR, Hr, Hs⟩
    imod (Release.slot_release ES (ι := κ (d, k)) (k := (d, k)) (S := freeSlot (d, k)) (Set.mem_univ _)
      (by unfold freeSlot; exact Release.slot_slot_false (slot_nonempty _)) 0) $$ [Hr Hs] with ⟨-, H⟩
    · isplitr; · iapply (slot_of m K κ (d, k)); iexact HR
      isplitl [Hr] <;> iassumption
    imodintro; iexact H
  unfold entered
  refine BI.Entails.trans ?_ (bigSep_fupd _ _)
  refine BI.Entails.trans ?_ (bigSep_mono fun k _ => one k)
  rw [bigSep_sep', bigSep_sep']
  exact BI.sep_mono (bigSep_of_persistent _ _) (BI.Entails.refl _)

omit [FloatOps F] in
theorem sep_zero (Φ : Fin 31 → sProp 𝕄) : bigSep Finset.univ Φ = iprop(Φ ⟨0, by decide⟩ ∗ bigSep (ge 1) Φ) := by
  rw [← ge_zero]; exact sep_ge Φ (show 0 < 31 by decide)

theorem before_intro (d : Dev nD) :
    iprop((bigSep Finset.univ fun k : Fin 31 => xfer (F := F) d k)
      ∗ (bigSep Finset.univ fun k : Fin 31 => cred (tallyAt (barCell d) (2 * k.val + 2) 1))
      ∗ bigSep Finset.univ fun k : Fin 31 => xPts m d (tgt d k)) ⊢ bigSep (ge 0) (before m d) :=
  Entails.of_eq (by rw [ge_zero]; unfold before; rw [bigSep_sep', bigSep_sep'])

theorem done_elim (d : Dev nD) :
    bigSep Finset.univ (done m d) ⊢ iprop((bigSep Finset.univ fun k : Fin 31 => landed m d k)
      ∗ (bigSep Finset.univ fun k : Fin 31 => semVal (recvCell d k) 0)
      ∗ (bigSep Finset.univ fun k : Fin 31 => xPts m d (tgt d k))
      ∗ bigSep Finset.univ fun k : Fin 31 => semVal (sendCell d k) 0) :=
  Entails.of_eq (by unfold done; rw [bigSep_sep', bigSep_sep', bigSep_sep'])

theorem last_after (d : Dev nD) :
    iprop(after m d ⟨30, by decide⟩ ∗ bigSep (lt 30) (after m d)) ⊢ bigSep (ge 0) (after m d) :=
  Entails.of_eq (by rw [← sep_lt (after m d) (show 30 < 31 by decide), lt_last, ge_zero])

/-- What a device's body starts from, beside its operand, weights, scales and result buffer; -/
def bodyIn (d : Dev nD) : sProp 𝕄 :=
  iprop((∃ f : Buf (Elt F) (rLoc d), rLoc d ↦{fullShare} f)
    ∗ (bigSep Finset.univ fun k : Fin 31 => Release.readerAt ES (d, k) 0)
    ∗ atPos ER (barCell d) 0 ∅ 0
    ∗ (bigSep Finset.univ fun k : Fin 31 => xfer (F := F) d k)
    ∗ (bigSep Finset.univ fun k : Fin 31 => cred (tallyAt (barCell d) (2 * k.val + 2) 1))
    ∗ bigSep Finset.univ fun k : Fin 31 => sigTok (F := F) d k)
/-- and what it leaves. -/
def bodyOut (d : Dev nD) : sProp 𝕄 :=
  iprop((∃ f : Buf (Elt F) (rLoc d), rLoc d ↦{fullShare} f)
    ∗ semVal (barCell d) 0
    ∗ (bigSep Finset.univ fun k : Fin 31 => semVal (recvCell d k) 0)
    ∗ bigSep Finset.univ fun k : Fin 31 => semVal (sendCell d k) 0)

/-- The body computes `outV` into the result buffer and leaves the rest as it was. -/
theorem wp_body {Q : PUnit.{1} → sProp 𝕄} (d : Dev nD) :
    iprop(records m K κ ∗ ow d (Owe d 0 0) ∗ (xLoc d ↦{fullShare} xstg m d) ∗ (wLoc d ↦{fullShare} wstg m d)
        ∗ (sLoc d ↦{fullShare} sstg m d) ∗ (tLoc d ↦{fullShare} tstg m d) ∗ (∃ f : Buf (Elt F) (oLoc d), oLoc d ↦{fullShare} f) ∗ bodyIn d)
      ⊢ iprop(((ow d 0 ∗ (xLoc d ↦{fullShare} xstg m d) ∗ (wLoc d ↦{fullShare} wstg m d)
          ∗ (sLoc d ↦{fullShare} sstg m d) ∗ (tLoc d ↦{fullShare} tstg m d) ∗ (oLoc d ↦{fullShare} outV m d) ∗ bodyOut d) -∗ Q ⟨⟩)
        -∗ WP d (bodyP xM (Memref.isWhole_whole _) wM sM tM oM rM (Memref.isWhole_whole _) sendA recvA) Q) := by
  unfold bodyP bodyIn
  simp only [Prog.lift, Prog.bind_op, Prog.bind_ret, Prog.pure_eq_ret, wp_deviceId]
  iintro ⟨#HR, HO, Hx, Hw, Hs, Ht, Ho, ⟨Hscr, Hrd, Hbar, Hxf, Hcb, Hst⟩⟩ Hc
  ihave Hscr := (scr_split d) $$ Hscr
  icases Hscr with ⟨H0, Hfree⟩
  imod (enter m K κ d) $$ [Hrd Hfree] with #He
  · isplitr; · iexact HR
    isplitl [Hrd] <;> iassumption
  ihave Hst := (Entails.of_eq (sep_zero (sigTok (F := F) d))) $$ Hst
  icases Hst with ⟨Hst0, Hst⟩
  iapply (wp_sig m K κ d 0 (show 0 < 31 by decide)) $$ [HO Hst0]
  · isplitr; · iexact HR
    isplitl [HO]; · iexact HO
    isplitl [Hst0]; · unfold sigTok; iexact Hst0
    isplitr; · iexact He
    unfold know; rw [Finset.range_zero, bigSep_empty]; iempintro
  iintro HO
  iapply (wp_own m d) $$ [Hx Hw H0]
  · isplitl [Hx]; · iexact Hx
    isplitl [Hw] <;> iassumption
  iintro ⟨Hx, Hw, H0⟩
  ihave Hx := (Entails.of_eq (x_blocks m d)) $$ Hx
  icases Hx with ⟨Hx0, Hx⟩
  iapply (wp_steps m K κ d 30 0 (by decide) (by decide)) $$ [HO Hbar Hw Hxf Hcb Hx Hst]
  · isplitr; · iexact HR
    isplitr; · iexact He
    isplitl [HO]; · iexact HO
    isplitl [Hbar]
    · unfold barState; iexists ∅
      isplitl; · iexact Hbar
      rw [bigSep_empty]; iempintro
    isplitl [Hw]; · unfold wPts; iexact Hw
    isplitl [Hxf Hcb Hx]
    · iapply (before_intro m d)
      isplitl [Hxf]; · iexact Hxf
      isplitl [Hcb] <;> iassumption
    isplitl [Hst]; · iexact Hst
    rw [lt_zero, bigSep_empty]; iempintro
  iintro ⟨HO, Hbar, Hw, Hf, Ha⟩
  ihave Hf := (Entails.of_eq (sep_ge (before m d) (show 30 < 31 by decide))) $$ Hf
  unfold before
  icases Hf with ⟨⟨Hxf, HcB, HxP⟩, -⟩
  iapply (wp_bar_last m K κ d (Nat.le_refl 30)) $$ [HO HcB Hbar]
  · isplitr; · iexact HR
    isplitl [HO]; · iexact HO
    isplitl [HcB] <;> iassumption
  iintro ⟨HO, HzB, #Hk⟩
  iapply (wp_xfer m K κ d 30 (a := 31) (Nat.le_refl 31)) $$ [HO Hxf HxP Hw]
  · isplitr; · iexact HR
    isplitl [HO]; · iexact HO
    isplitr; · iexact Hk
    isplitl [Hxf]; · iexact Hxf
    isplitl [HxP] <;> iassumption
  iintro ⟨HO, Haf, Hw⟩
  iapply (wp_out m d) $$ [Hs Ht Ho]
  · isplitl [Hs]; · iexact Hs
    isplitl [Ht] <;> iassumption
  iintro ⟨Hs, Ht, Ho⟩
  rw [← bind_pure (sentsP xM (Memref.isWhole_whole _) rM (Memref.isWhole_whole _) sendA d 31 0 _)]
  have h31 : 31 + 0 ≤ 31 := by decide
  iapply (wp_sents m K κ d 31 0 h31 rfl) $$ [HO Ha Haf]
  · isplitr; · iexact HR
    isplitl [HO]
    · rw [← Owe_done d]; iexact HO
    isplitl [Ha Haf]
    · iapply (last_after m d)
      isplitl [Haf]; · iexact Haf
      iexact Ha
    rw [lt_zero, bigSep_empty]; iempintro
  iintro ⟨HO, Hd⟩
  ihave Hd := (done_elim m d) $$ Hd
  icases Hd with ⟨Hl, HzR, Hx, HzS⟩
  simp only [Prog.pure_eq_ret, wp_ret]
  imodintro
  iapply Hc
  isplitl [HO]; · iexact HO
  isplitl [Hx0 Hx]
  · rw [x_blocks m d]; isplitl [Hx0] <;> iassumption
  isplitl [Hw]; · unfold wPts; iexact Hw
  isplitl [Hs]; · iexact Hs
  isplitl [Ht]; · iexact Ht
  isplitl [Ho]; · unfold outV; iexact Ho
  unfold bodyOut
  isplitl [H0 Hl]
  · iapply (scr_join m d); isplitl [H0] <;> iassumption
  isplitl [HzB]; · iexact HzB
  isplitl [HzR] <;> iassumption

end Cert.Exch

end
-- ==== Proof.Deal.lean ====
/-
  What the launch hands the devices: the cells' and slots' ghost resources funded, the invariants allocated for all
  devices under one update, and the tokens dealt to the devices that use them.
-/
module

public import proofs.«01_k».proof.Proof.Body

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The kernel's own semaphores -/

/-- The send and receive semaphores of the 31 steps. -/
abbrev osem : Fin 31 ⊕ Fin 31 → SemLoc sig := fun x => csem (.inr x)

theorem ownSemFacts : Pipeline.OwnSemFacts cfg0.spec osem where
  isScoped := by decide +kernel
  inj := fun _ _ h => Sum.inr_injective (csem_injective h)
  disj := by decide +kernel

/-! ## The ghost resources -/

def ringCells : Finset (GSem nD τ sig) := Finset.univ.map ⟨fun p : Dev nD × CI => kcell p.1 p.2, kcell_injective⟩

/-- The duties of one device's cells: its barrier's 31, and one of each send and receive cell; -/
abbrev TI : Type := Fin 31 ⊕ (Fin 31 ⊕ Fin 31)
/-- the cell of a duty -/
def tokCell : TI → CI
  | .inl _ => .inl ()
  | .inr x => .inr x
/-- and its number. -/
def tokNum : TI → ℕ
  | .inl j => j.val
  | .inr _ => 0

theorem tok_injective : Function.Injective
    (fun p : Dev nD × TI => ((kcell p.1 (tokCell p.2), 0, tokNum p.2) : GSem nD τ sig × ℕ × ℕ)) := by
  rintro ⟨c, x⟩ ⟨c', x'⟩ h
  have h1 := kcell_injective (a₁ := (c, tokCell x)) (a₂ := (c', tokCell x')) (congrArg Prod.fst h)
  have h2 : tokNum x = tokNum x' := congrArg (fun y : GSem nD τ sig × ℕ × ℕ => y.2.2) h
  have h3 : c = c' := congrArg Prod.fst h1
  have h4 : tokCell x = tokCell x' := congrArg Prod.snd h1
  subst h3
  rcases x with j | x <;> rcases x' with j' | x'
  · rw [Fin.ext (a := j) (b := j') h2]
  · cases h4
  · cases h4
  · rw [Sum.inr_injective h4]

def ringToks : Finset (GSem nD τ sig × ℕ × ℕ) := Finset.univ.map ⟨_, tok_injective⟩

def u₀ : UU :=
  (initOf (Pipeline.cells cfgs cellOf_inj) (Pipeline.launchToks cfgs cellOf_inj),
    (initOf ringCells ringToks, Release.initSlots (Finset.univ : Finset Key) 1))

/-- The first device's share of the slots' resources is all of them. -/
def slotsAt (c : Dev nD) : sProp 𝕄 :=
  if c = (⟨0, by decide⟩ : Dev nD) then BI.own (ES (Release.initSlots (Finset.univ : Finset Key) 1)) else BI.emp

omit [FloatOps F] in
theorem slots_all : (bigSep Finset.univ fun c => slotsAt (F := F) c) = (BI.own (ES (Release.initSlots (Finset.univ : Finset Key) 1)) : sProp 𝕄) := by
  unfold slotsAt
  rw [← bigSep_filter, Finset.filter_eq', if_pos (Finset.mem_univ _), bigSep_singleton]

/-- A device's cells' positions; -/
def ats (c : Dev nD) : sProp 𝕄 := bigSep Finset.univ fun x : CI => atPos ER (kcell c x) 0 ∅ 0
/-- that they have reached their round; -/
def rchd (c : Dev nD) : sProp 𝕄 := bigSep Finset.univ fun x : CI => reached ER (kcell c x) 0
/-- and their duties' tokens. -/
def toks (c : Dev nD) : sProp 𝕄 := bigSep Finset.univ fun x : TI => dutyTok ER (kcell c (tokCell x)) 0 (tokNum x)

/-- What the launch element deals a device; -/
def G (c : Dev nD) : sProp 𝕄 :=
  iprop((bigSep Finset.univ fun x : CI => roundState ER (exRd m) (kcell c x) 0) ∗ ats c ∗ rchd c ∗ toks c ∗ slotsAt c)

/-- what a device holds of it when all is dealt. -/
def mine (c : Dev nD) : sProp 𝕄 :=
  iprop((bigSep Finset.univ fun k : Fin 31 => Release.readerAt ES (c, k) 0)
    ∗ (atPos ER (barCell c) 0 ∅ 0
      ∗ (bigSep Finset.univ fun k : Fin 31 => atPos ER (sendCell c k) 0 ∅ 0)
      ∗ bigSep Finset.univ fun k : Fin 31 => atPos ER (recvCell c k) 0 ∅ 0)
    ∗ ((bigSep Finset.univ fun k : Fin 31 => sigTok (F := F) c k)
      ∗ (bigSep Finset.univ fun k : Fin 31 => dutyTok ER (sendCell c k) 0 0)
      ∗ bigSep Finset.univ fun k : Fin 31 => dutyTok ER (recvCell (tgt c k) k) 0 0)
    ∗ bigSep Finset.univ fun k : Fin 31 => Release.writeTok ES (tgt c k, k) 1)

/-- The invariants and marks all devices share. -/
def shared (K : Dev nD × CI → ℕ) (κ : Key → ℕ) : sProp 𝕄 :=
  iprop((bigSep Finset.univ fun p : Dev nD × CI => cellInv ER (exRd m) (K p) (kcell p.1 p.2))
    ∗ (bigSep Finset.univ fun p : Dev nD × CI => reached ER (kcell p.1 p.2) 0)
    ∗ (bigSep Finset.univ fun p : Key => Release.slotInv ES (κ p) p (freeSlot p)))

instance shared_persistent (K : Dev nD × CI → ℕ) (κ : Key → ℕ) : BI.Persistent (shared m K κ) := by
  unfold shared; infer_instance

def G' (c : Dev nD) : sProp 𝕄 := iprop(∃ K κ, shared m K κ ∗ mine c)

omit [FloatOps F] in
theorem fund_ring :
    BI.own ((embR : Emb (UB × US) 𝕄) (initOf ringCells ringToks, Release.initSlots (Finset.univ : Finset Key) 1))
      ⊢ (|==> bigSep Finset.univ (G m) : sProp 𝕄) := by
  have hX (Φ : GSem nD τ sig → sProp 𝕄) :
      bigSep ringCells Φ = bigSep Finset.univ fun c : Dev nD => bigSep Finset.univ fun x : CI => Φ (kcell c x) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  ihave HX := (own_pair_emb (embR : Emb (UB × US) 𝕄) _ _) $$ HX
  icases HX with ⟨HX, HS⟩
  imod (Rounds.fund ER (exRd m) ringCells ringToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  ihave HS' := (Entails.of_eq (slots_all (F := F)).symm) $$ HS
  unfold G; simp only [bigSep_sep']
  isplitl [Hst']; · iexact Hst'
  isplitl [Hat']; · unfold ats; iexact Hat'
  isplitl [Hr']; · unfold rchd; iexact Hr'
  isplitl [Htok'] <;> iassumption

/-! ## The invariants -/

omit [FloatOps F] in
/-- Over a device's cells, kind by kind. -/
theorem sep_cells (Φ : CI → sProp 𝕄) : bigSep Finset.univ Φ
    = iprop(Φ (.inl ()) ∗ (bigSep Finset.univ fun k : Fin 31 => Φ (.inr (.inl k))) ∗ bigSep Finset.univ fun k : Fin 31 => Φ (.inr (.inr k))) := by
  rw [bigSep_univ_sum, bigSep_univ_sum, bigSep_univ_eq_bigSepL [()] (by decide) (by decide), bigSepL_singleton]
  rfl

omit [FloatOps F] in
theorem ownSems0_eq (c : Dev nD) : (Pipeline.ownSems0 (Ix := ℕ) (Name := ℕ) (U := UU) (Lvl := ℕ) (Val := Elt F) (τ := τ) osem c : sProp 𝕄)
    = iprop((bigSep Finset.univ fun k : Fin 31 => semVal (sendCell c k) 0) ∗ bigSep Finset.univ fun k : Fin 31 => semVal (recvCell c k) 0) := by
  unfold Pipeline.ownSems0; exact bigSep_univ_sum _
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun x : CI => semVal (kcell c x) 0 : sProp 𝕄) := by
  rw [ownSems0_eq, unscopedSems0_eq, sep_cells]
  iintro ⟨HS, HB⟩
  isplitl [HB] <;> iassumption

omit [FloatOps F] in
theorem cells_alloc (c : Dev nD) :
    iprop((bigSep Finset.univ fun x : CI => semVal (kcell c x) 0) ∗ bigSep Finset.univ fun x : CI => roundState ER (exRd m) (kcell c x) 0)
      ⊢ (|={Set.univ}=> bigSep Finset.univ fun x : CI => iprop(∃ κ : ℕ, cellInv ER (exRd m) κ (kcell c x)) : sProp 𝕄) := by
  rw [← bigSep_sep']
  exact (bigSep_mono fun x _ => (Rounds.body_intro ER (exRd m) (kcell c x)).trans inv_alloc).trans (bigSep_fupd _ _)

omit [FloatOps F] in
/-- A device's cells' invariants allocated. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun x : CI => iprop(∃ κ : ℕ, cellInv ER (exRd m) κ (kcell c x)))
          ∗ ats c ∗ rchd c ∗ toks c ∗ slotsAt c) := by
  unfold G
  iintro ⟨Hos, Hus, Hst, Hrest⟩
  ihave Hv := (sems0_eq (F := F) c) $$ [Hos Hus]
  · isplitl [Hos] <;> iassumption
  imod (cells_alloc m c) $$ [Hv Hst] with Hinv
  · isplitl [Hv] <;> iassumption
  imodintro
  isplitl [Hinv] <;> iassumption

/-! ## The deal -/

omit [FloatOps F] in
/-- What every device holds of each step, held by the device whose target it is. -/
theorem around (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (tgt c k) k := by
  let e : Key ≃ Key := ⟨fun p => (tgt p.1 p.2, p.2), fun p => (src p.1 p.2, p.2),
    fun p => by dsimp only; rw [src_tgt], fun p => by dsimp only; rw [tgt_src]⟩
  rw [← bigSep_univ_prod (fun p : Key => Φ p.1 p.2), bigSep_univ_equiv e,
    ← bigSep_univ_prod (fun p : Key => Φ (tgt p.1 p.2) p.2)]
  rfl

omit [FloatOps F] in
theorem deal_ats : (bigSep Finset.univ fun c : Dev nD => ats (F := F) c)
    = iprop((bigSep Finset.univ fun c : Dev nD => atPos ER (barCell c) 0 ∅ 0)
      ∗ (bigSep Finset.univ fun c : Dev nD => bigSep Finset.univ fun k : Fin 31 => atPos ER (sendCell c k) 0 ∅ 0)
      ∗ bigSep Finset.univ fun c : Dev nD => bigSep Finset.univ fun k : Fin 31 => (atPos ER (recvCell c k) 0 ∅ 0 : sProp 𝕄)) := by
  unfold ats
  rw [← bigSep_sep', ← bigSep_sep']
  exact bigSep_congr fun c _ => sep_cells _

omit [FloatOps F] in
theorem deal_toks : (bigSep Finset.univ fun c : Dev nD => toks (F := F) c)
    = iprop((bigSep Finset.univ fun c : Dev nD => bigSep Finset.univ fun k : Fin 31 => sigTok (F := F) c k)
      ∗ (bigSep Finset.univ fun c : Dev nD => bigSep Finset.univ fun k : Fin 31 => dutyTok ER (sendCell c k) 0 0)
      ∗ bigSep Finset.univ fun c : Dev nD => bigSep Finset.univ fun k : Fin 31 => (dutyTok ER (recvCell (tgt c k) k) 0 0 : sProp 𝕄)) := by
  rw [← around (F := F) (fun c k => dutyTok ER (recvCell c k) 0 0),
    show (bigSep Finset.univ fun c : Dev nD => bigSep Finset.univ fun k : Fin 31 => sigTok (F := F) c k)
      = bigSep Finset.univ fun c : Dev nD => bigSep Finset.univ fun k : Fin 31 => (dutyTok ER (barCell c) 0 k.val : sProp 𝕄) from
      (bigSep_univ_equiv prvE fun c : Dev nD => bigSep Finset.univ fun k : Fin 31 => (dutyTok ER (barCell c) 0 k.val : sProp 𝕄)).symm,
    ← bigSep_sep', ← bigSep_sep']
  unfold toks
  exact bigSep_congr fun c _ => by rw [bigSep_univ_sum, bigSep_univ_sum]; rfl

omit [FloatOps F] in
theorem deal_writes :
    (bigSep ((Finset.univ : Finset Key) ×ˢ Finset.range 1) fun x => (Release.writeTok ES x.1 (x.2 + 1) : sProp 𝕄))
      = bigSep Finset.univ fun c : Dev nD => bigSep Finset.univ fun k : Fin 31 => Release.writeTok ES (tgt c k, k) 1 := by
  rw [← around (F := F) (fun c k => Release.writeTok ES (c, k) 1), Finset.range_one,
    Finset.product_singleton, bigSep_map]
  exact bigSep_univ_prod _

omit [FloatOps F] in
theorem deal :
    iprop((bigSep Finset.univ fun c : Dev nD => ats (F := F) c) ∗ (bigSep Finset.univ fun c : Dev nD => toks (F := F) c)
      ∗ (bigSep (Finset.univ : Finset Key) fun p => Release.readerAt ES p 0)
      ∗ bigSep ((Finset.univ : Finset Key) ×ˢ Finset.range 1) fun x => (Release.writeTok ES x.1 (x.2 + 1) : sProp 𝕄))
      ⊢ bigSep Finset.univ fun c => mine (F := F) c := by
  unfold mine
  rw [bigSep_sep', bigSep_sep', bigSep_sep', bigSep_sep', bigSep_sep', bigSep_sep', bigSep_sep', deal_ats, deal_toks, deal_writes,
    bigSep_univ_prod (fun p : Key => (Release.readerAt ES p 0 : sProp 𝕄))]
  iintro ⟨H1, H2, H3, H4⟩
  isplitl [H3]; · iexact H3
  isplitl [H1]; · iexact H1
  isplitl [H2] <;> iassumption

omit [FloatOps F] in
theorem sep_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem G'_intro (K : Dev nD × CI → ℕ) (κ : Key → ℕ) (c : Dev nD) : iprop(shared m K κ ∗ mine c) ⊢ G' m c := by
  unfold G'
  iintro H
  iexists K, κ; iexact H

omit [FloatOps F] in
theorem regroup :
    (bigSep Finset.univ fun c : Dev nD => iprop((bigSep Finset.univ fun x : CI => iprop(∃ κ : ℕ, cellInv ER (exRd m) κ (kcell c x)))
        ∗ ats c ∗ rchd c ∗ toks c ∗ slotsAt c) : sProp 𝕄)
      ⊢ |={Set.univ}=> bigSep Finset.univ (G' m) := by
  rw [bigSep_sep', bigSep_sep', bigSep_sep', bigSep_sep', slots_all,
    ← bigSep_univ_prod (fun p : Dev nD × CI => iprop(∃ κ : ℕ, cellInv ER (exRd m) κ (kcell p.1 p.2))),
    show (bigSep Finset.univ fun c : Dev nD => rchd (F := F) c) = bigSep Finset.univ fun p : Dev nD × CI => (reached ER (kcell p.1 p.2) 0 : sProp 𝕄) from
      (bigSep_univ_prod (fun p : Dev nD × CI => (reached ER (kcell p.1 p.2) 0 : sProp 𝕄))).symm]
  iintro ⟨HI, Hat, #HR, Htok, HS⟩
  ihave HK := (BI.bigSep_exists_pi Finset.univ (fun (p : Dev nD × CI) (κ : ℕ) => (cellInv ER (exRd m) κ (kcell p.1 p.2) : sProp 𝕄))) $$ HI
  icases HK with ⟨%K, #HI⟩
  imod (Release.slots_init ES (Finset.univ : Finset Key) 1 (freeSlot (F := F))) $$ HS with ⟨%κ, %hκ, #Hsl, Hrd, Hwt⟩
  imodintro
  iapply (sep_persistent (R := shared m K κ) fun c _ => G'_intro m K κ c)
  isplitr
  · unfold shared
    isplitr; · iexact HI
    isplitr; · iexact HR
    iexact Hsl
  · iapply (deal (F := F))
    isplitl [Hat]; · iexact Hat
    isplitl [Htok]; · iexact Htok
    isplitl [Hrd] <;> iassumption

omit [FloatOps F] in
/-- All devices' semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have h := (bigSep_mono (s := Finset.univ) fun (c : Dev nD) _ => core_alloc m c).trans (bigSep_fupd _ _)
  exact h.trans ((BI.fupd_mono (regroup m)).trans fupd_trans)

/-! ## The launch credit -/

omit [FloatOps F] in
/-- Every device starts with a credit for each signal and each block that will reach it. -/
theorem creds (c : Dev nD) :
    (Pipeline.launchCred (fun d => Owe d 0 0) c : sProp 𝕄)
      ⊢ iprop((bigSep Finset.univ fun k : Fin 31 => cred (tallyAt (barCell c) (2 * k.val + 2) 1))
        ∗ bigSep Finset.univ fun k : Fin 31 => cred (tallyAt (recvCell c k) (2 * k.val + 3) N)) := by
  unfold Owe
  rw [ge_zero, Pipeline.launchCred_add (fun d : Dev nD => ∑ k : Fin 31, tallyAt (barCell (prv d)) (2 * k.val + 2) 1)
      (fun d : Dev nD => ∑ k : Fin 31, tallyAt (recvCell (tgt d k) k) (2 * k.val + 3) N) c,
    Pipeline.launchCred_sum Finset.univ (fun (k : Fin 31) (d : Dev nD) => tallyAt (barCell (prv d)) (2 * k.val + 2) 1) c,
    Pipeline.launchCred_sum Finset.univ (fun (k : Fin 31) (d : Dev nD) => tallyAt (recvCell (tgt d k) k) (2 * k.val + 3) N) c]
  exact BI.sep_mono
    (bigSep_mono fun k _ => Pipeline.launchCred_tallyAt (csem (.inl ())) prv (fun d => sh d 1) prv_sh sh1_prv (2 * k.val + 2) 1 c)
    (bigSep_mono fun k _ => Pipeline.launchCred_tallyAt (csem (.inr (.inr k))) (fun d => tgt d k) (fun d => src d k)
      (fun d => tgt_src d k) (fun d => src_tgt d k) (2 * k.val + 3) N c)

end Cert.Exch

end
-- ==== Proof.Run.lean ====
/-
  The run of the kernel on all devices, over any float values: the pipeline's data, the body at its one point, the launch,
  and the whole module's execution.
-/
module

public import proofs.«01_k».proof.Proof.Deal
public import Idealize.ShloMosaic.Lib.Pipeline.CollectiveSegs

@[expose] public section

noncomputable section

namespace Cert.Exch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What a device's body starts from beside its buffers: the shared records, its own resources, its credits; -/
def start (c : Dev nD) : sProp 𝕄 :=
  iprop((∃ K κ, records m K κ) ∗ mine c
    ∗ (bigSep Finset.univ fun k : Fin 31 => cred (tallyAt (barCell c) (2 * k.val + 2) 1))
    ∗ bigSep Finset.univ fun k : Fin 31 => cred (tallyAt (recvCell c k) (2 * k.val + 3) N))
/-- with the landing buffer, before the one point; -/
def Φ₀ (c : Dev nD) : sProp 𝕄 := iprop((∃ K κ, records m K κ) ∗ bodyIn c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => sstg m c
    | ⟨3, _⟩ => tstg m c
    | ⟨4, _⟩ => outV m c
  Φ t := match t with
    | ⟨0, _⟩ => Φ₀ m c
    | ⟨_ + 1, _⟩ => bodyOut c
  q _ := fullShare
  owed t := match t with
    | ⟨0, _⟩ => Owe c 0 0
    | ⟨_ + 1, _⟩ => 0

omit [FloatOps F] in
theorem bigSep_W (Φ : Fin cfg0.W → sProp 𝕄) : bigSep Finset.univ Φ
    = iprop(Φ (0 : Fin 5) ∗ Φ (1 : Fin 5) ∗ Φ (2 : Fin 5) ∗ Φ (3 : Fin 5) ∗ Φ (4 : Fin 5)) := bigSep_W0 Φ

theorem fetch_in (w : Fin cfg0.W) (h : w.val < 4) (t : Fin cfg0.N) : (cfg0.win w).fetch t = true := by
  rw [fin_N t]; revert w; decide

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A device's staging buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) :
    (((c : Thread nD τ).loc b) ↦{fullShare} X : sProp 𝕄) ⊢ stg c b X := by
  iintro H; iexists X; isplitr; · ipureintro; rfl
  iexact H

/-- A fetched staging buffer holds the window's block of the array. -/
theorem stg_before (c : Dev nD) (b : Ref sig .tc) (X Y : b.ty.Contents (Elt F)) (h : X = Y) :
    stg c b X ⊢ (((c : Thread nD τ).loc b) ↦{fullShare} Y : sProp 𝕄) := by
  subst h; iintro ⟨%f, %hf, H⟩; subst hf; iexact H

def bodyPre (c : Dev nD) : sProp 𝕄 :=
  iprop(Φ₀ m c ∗ (dats m ρ 0 c).owesAt 0 t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(bodyOut c ∗ (dats m ρ 0 c).owesAt 0 t₀.succ
    ∗ stg c cc0_stg0_0 (xstg m c) ∗ stg c cc0_stg1_0 (wstg m c) ∗ stg c cc0_stg2_0 (sstg m c) ∗ stg c cc0_stg3_0 (tstg m c)
    ∗ stg c cc0_stg4_0 (outV m c))

theorem before_0 (c : Dev nD) (d) : (dats m ρ 0 c).before (0 : Fin 5) t₀ d = xstg m c := by
  unfold Dat.before; rw [if_pos (fetch_in 0 (by decide) t₀)]; rfl
theorem before_1 (c : Dev nD) (d) : (dats m ρ 0 c).before (1 : Fin 5) t₀ d = wstg m c := by
  unfold Dat.before; rw [if_pos (fetch_in 1 (by decide) t₀)]; rfl
theorem before_2 (c : Dev nD) (d) : (dats m ρ 0 c).before (2 : Fin 5) t₀ d = sstg m c := by
  unfold Dat.before; rw [if_pos (fetch_in 2 (by decide) t₀)]; rfl
theorem before_3 (c : Dev nD) (d) : (dats m ρ 0 c).before (3 : Fin 5) t₀ d = tstg m c := by
  unfold Dat.before; rw [if_pos (fetch_in 3 (by decide) t₀)]; rfl

theorem owes_in (c : Dev nD) : (dats m ρ 0 c).owesAt 0 t₀.castSucc ⊢ (ow c (Owe c 0 0) : sProp 𝕄) := by
  unfold Dat.owesAt Pipeline.owesWithin ow
  rw [show (dats m ρ 0 c).owed t₀.castSucc = Owe c 0 0 from rfl]
  iintro ⟨%W, %hW, H⟩
  iexists W; iexact H
theorem owes_out (c : Dev nD) : (ow c 0 : sProp 𝕄) ⊢ (dats m ρ 0 c).owesAt 0 t₀.succ := by
  unfold Dat.owesAt Pipeline.owesWithin ow
  rw [show (dats m ρ 0 c).owed t₀.succ = 0 from rfl]
  iintro ⟨%W, H⟩
  iexists W
  isplitr; · ipureintro; exact fun _ _ => Or.inl trivial
  iexact H

/-- The body from what the pipeline hands it to what the pipeline takes back. -/
theorem sound_body (c : Dev nD) : bodyPre m ρ c ⊢ WP c (bodyP xM (Memref.isWhole_whole _) wM sM tM oM rM (Memref.isWhole_whole _) sendA recvA)
    (fun _ => bodyPost m ρ c) := by
  unfold bodyPre Φ₀
  iintro ⟨⟨⟨%K, %κ, #HR⟩, Hin⟩, HO, ⟨%d0, Hx⟩, ⟨%d1, Hw⟩, ⟨%d2, Hs⟩, ⟨%d3, Ht⟩, ⟨%d4, %f, %hf, Ho⟩⟩
  ihave HO := (owes_in m ρ c) $$ HO
  ihave Hx := (stg_before c cc0_stg0_0 _ _ (before_0 m ρ c d0)) $$ Hx
  ihave Hw := (stg_before c cc0_stg1_0 _ _ (before_1 m ρ c d1)) $$ Hw
  ihave Hs := (stg_before c cc0_stg2_0 _ _ (before_2 m ρ c d2)) $$ Hs
  ihave Ht := (stg_before c cc0_stg3_0 _ _ (before_3 m ρ c d3)) $$ Ht
  iapply (wp_body m K κ c) $$ [Hin HO Hx Hw Hs Ht Ho]
  · isplitr; · iexact HR
    isplitl [HO]; · iexact HO
    isplitl [Hx]; · iexact Hx
    isplitl [Hw]; · iexact Hw
    isplitl [Hs]; · iexact Hs
    isplitl [Ht]; · iexact Ht
    isplitl [Ho]; · iexists f; iexact Ho
    iexact Hin
  iintro ⟨HO, Hx, Hw, Hs, Ht, Ho, Hout⟩
  unfold bodyPost
  isplitl [Hout]; · iexact Hout
  isplitl [HO]; · iapply (owes_out m ρ c); iexact HO
  isplitl [Hx]; · iapply (stg_intro c cc0_stg0_0 (xstg m c)); iexact Hx
  isplitl [Hw]; · iapply (stg_intro c cc0_stg1_0 (wstg m c)); iexact Hw
  isplitl [Hs]; · iapply (stg_intro c cc0_stg2_0 (sstg m c)); iexact Hs
  isplitl [Ht]; · iapply (stg_intro c cc0_stg3_0 (tstg m c)); iexact Ht
  iapply (stg_intro c cc0_stg4_0 (outV m c)); iexact Ho

set_option maxRecDepth 65536 in
/-- The library's body obligation on core `c`. -/
theorem body_obligation (c : Dev nD) : BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  rw [body_eq]
  exact sound_body m ρ c

/-! ## The launch theorem's side conditions -/

theorem share_eq (c : Dev nD) (w : Fin cfg0.W) : (dats m ρ 0 c).share w = fullShare := by unfold Dat.share; split <;> rfl

omit [FloatOps F] in
/-- The shared records and the levels are what the steps ask for. -/
theorem records_intro (K : Dev nD × CI → ℕ) (κ : Key → ℕ) : iprop(shared m K κ ∗ levAts L lv) ⊢ records m K κ := by
  unfold shared records
  iintro ⟨⟨H1, H2, H3⟩, H4⟩
  isplitl [H1]; · iexact H1
  isplitl [H2]; · iexact H2
  isplitl [H3] <;> iassumption

omit [FloatOps F] in
theorem start_intro (c : Dev nD) :
    iprop(Pipeline.unscopedRestP Pipeline.Prefetch.none cfg0.spec c (fun b => m ((c : Thread nD τ).loc b)) ∗ levAts L lv
        ∗ Pipeline.launchCred (fun d => Owe d 0 0) c ∗ prngReg c (ρ c) ∗ G' m c)
      ⊢ |={Set.univ}=> iprop(start m c ∗ emp) := by
  unfold start G'
  iintro ⟨-, Hlev, Hcr, -, ⟨%K, %κ, HS, Hm⟩⟩
  ihave Hc := (creds (F := F) c) $$ Hcr
  imodintro
  isplitl
  · isplitl [Hlev HS]
    · iexists K, κ
      iapply (records_intro m K κ)
      isplitl [HS] <;> iassumption
    isplitl [Hm]; · iexact Hm
    iexact Hc
  · iempintro

omit [FloatOps F] in
/-- A device's resources and credits, step by step, with its landing buffer. -/
theorem bodyIn_intro (c : Dev nD) :
    iprop((∃ f : Buf (Elt F) (rLoc c), rLoc c ↦{fullShare} f) ∗ mine c
      ∗ (bigSep Finset.univ fun k : Fin 31 => cred (tallyAt (barCell c) (2 * k.val + 2) 1))
      ∗ bigSep Finset.univ fun k : Fin 31 => cred (tallyAt (recvCell c k) (2 * k.val + 3) N)) ⊢ bodyIn (F := F) c := by
  unfold mine bodyIn xfer
  rw [bigSep_sep', bigSep_sep', bigSep_sep', bigSep_sep', bigSep_sep']
  iintro ⟨Hf, ⟨Hrd, ⟨HaB, HaS, HaR⟩, ⟨Hsig, HtS, HtR⟩, Hwt⟩, HcB, HcR⟩
  isplitl [Hf]; · iexact Hf
  isplitl [Hrd]; · iexact Hrd
  isplitl [HaB]; · iexact HaB
  isplitl [HaS HaR HtS HtR Hwt HcR]
  · isplitl [HaR]; · iexact HaR
    isplitl [HcR]; · iexact HcR
    isplitl [HaS]; · iexact HaS
    isplitl [HtR]; · iexact HtR
    isplitl [HtS] <;> iassumption
  isplitl [HcB] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨HR, Hm⟩, -, Hr⟩
  isplitl [HR]; · iexact HR
  iapply (bodyIn_intro (F := F) c)
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = bodyOut c from rfl, scopedRest0_eq, ownSems0_eq, unscopedSems0_eq]
  unfold bodyOut
  iintro ⟨Hr, HzB, HzR, HzS⟩
  isplitl [HzB]; · iexact HzB
  isplitl [HzS HzR]
  · isplitl [HzS] <;> iassumption
  iexact Hr

theorem mayWait_stage (c : Dev nD) (sm : SemLoc sig) (O : CellTallies nD τ sig ℕ) (hO : O = Owe c 0 0 ∨ O = 0) :
    (levAts L lv : sProp 𝕄) ⊢ MayWait (c : Thread nD τ) sm 0 O := by
  rcases hO with rfl | rfl
  · exact mayWait c sm 0 (by decide) (by decide) (by decide)
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    mayWait_stage c _ _ (by
      rcases t with ⟨_ | _, ht⟩
      · exact Or.inl rfl
      · exact Or.inr rfl)

/-! ## The run -/

/-- What an array of device `c` holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- On 32 devices, for any float values, from any memory with zero counters: every weakly fair execution of the module
    ends, with each device's arrays at the pipeline's final contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := fun d => Owe d 0 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array after the run holds what it held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exch

end
-- ==== Proof.Result.lean ====
/-
  What the run leaves: the frames of the kernel's two readings, and each device's arrays in closed form.
-/
module

public import proofs.«01_k».proof.Defs
public import proofs.«01_k».proof.Proof.Run
public import proofs.«01_k».proof.Proof.Gen.Kernel

@[expose] public section

noncomputable section

namespace Cert.Exch

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The four arguments of every device are unchanged at a state the run ends in. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c (0 : Fin 5)).trans (finalA_in m ρ c (0 : Fin 5) rfl), (h c (1 : Fin 5)).trans (finalA_in m ρ c (1 : Fin 5) rfl),
    (h c (2 : Fin 5)).trans (finalA_in m ρ c (2 : Fin 5) rfl), (h c (3 : Fin 5)).trans (finalA_in m ρ c (3 : Fin 5) rfl)⟩

/-- Every execution ends, the four arguments unchanged and every counter zero, over any float values. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
    ∧ r.2.sem = fun _ => 0) :=
  (θ_run defs _ _).mono (fun _ h => ⟨args_kept m ρ h.1, h.2⟩) (run_main m ρ)

/-- The frame of the kernel read at the ideal values. -/
theorem frame_ideal : Cert.quiescent_KernelIdeal := fun m ρ _ => frame_any (F := Ideal) m ρ

/-- The two readings of the kernel have the same text: their tables of kernel bodies are equal, -/
theorem bodies_same : Cert.Kernel.defs₀ (F := F) = defs₀ (F := F) := by
  refine congrArg Defs.onTc (funext fun ℓ => funext fun a => ?_)
  obtain ⟨_ | ℓ, hℓ⟩ := ℓ
  · obtain ⟨t, s⟩ := a
    rfl
  · exact absurd hℓ (Nat.not_lt.2 (Nat.le_add_left _ _))
/-- and so are their whole tables. -/
theorem defs_same : Cert.Kernel.defs (F := F) = defs (F := F) := congrArg (Pipeline.defs _) bodies_same

/-- The frame of the kernel at words: the two readings have the same text. -/
theorem frame_kernel : Cert.quiescent_Kernel := by
  intro m ρ _
  rw [show Cert.Kernel.defs (F := Bits) = defs from defs_same]
  exact frame_any (F := Bits) m ρ

/-- The one block of the result's window, read back, is what the body left. -/
theorem finalA_blk (c : Dev nD) :
    (win0_4.blk (0 : Fin 1)).view.read (Elt F) (finalA m ρ c (4 : Fin 5)) = outV m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _

/-- The result array holds what the body left. -/
theorem finalA_out (c : Dev nD) : finalA m ρ c (4 : Fin 5) = outV m c := by
  have hz : (fun a => (win0_4.index (0 : Fin 1)) a * main_v1.ty.shape.size a) = fun _ => 0 :=
    funext fun a => by fin_cases a <;> decide
  have hr := fun f => Memref.read_access_unit_zero (Elt F) main_v1 hz (fun a => by fin_cases a <;> decide) f
  have ho := finalA_blk m ρ c
  rw [hr] at ho
  exact ho

/-- The staged copy of a device's `x` is its first argument. -/
theorem xstg_eq (c : Dev nD) : xstg m c = m ((c.tc : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

/-- The staged copy of a device's weights is its second argument. -/
theorem wstg_eq (c : Dev nD) : wstg m c = m ((c.tc : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

/-- The staged copy of the first scale is the third argument. -/
theorem sstg_eq (c : Dev nD) : sstg m c = m ((c.tc : Thread nD τ).loc main_arg2) := by
  have hz : (fun a => (win0_2.index (0 : Fin 1)) a * main_arg2.ty.shape.size a) = fun _ => 0 :=
    funext fun a => by fin_cases a <;> decide
  exact Memref.read_access_unit_zero (Elt F) main_arg2 hz (fun a => by fin_cases a <;> decide) _

/-- The staged copy of the second scale is the fourth argument. -/
theorem tstg_eq (c : Dev nD) : tstg m c = m ((c.tc : Thread nD τ).loc main_arg3) := by
  have hz : (fun a => (win0_3.index (0 : Fin 1)) a * main_arg3.ty.shape.size a) = fun _ => 0 :=
    funext fun a => by fin_cases a <;> decide
  exact Memref.read_access_unit_zero (Elt F) main_arg3 hz (fun a => by fin_cases a <;> decide) _

end Cert.Exch

end
-- ==== Proof.Block.lean ====
/-
  What one step of the kernel computes, over the integers: the exact product of a row block of an operand by a row block of
  the weights, in 32-bit words.
-/
module

public import proofs.«01_k».proof.Proof.Body
public import Idealize.ShloMosaic.Lib.IntMxu
public import Idealize.ShloMosaic.Lib.ValueIdx
public import Idealize.ShloMosaic.Lib.Pipeline.Value

@[expose] public section

noncomputable section

namespace Cert.Exch

open Cert.KernelIdeal Cert.KernelIdeal.Gen
open Idealize.ShloMosaic Idealize.ShloMosaic.TcCoe Idealize.ShloMosaic.ValueIdx
open scoped BigOperators

variable {F : FTy → Type} [FloatOps F]

/-- The integer product of two blocks of 8-bit words, at a row and a column. -/
def dotZ (x : IVec S128x128 8) (w : IVec S128x8192 8) (i : Fin 128) (j : Fin 8192) : ℤ :=
  ∑ k : Fin 128, (x (ix2 i k)).toInt * (w (ix2 k j)).toInt

/-- The exact dot product that the unit's word is a function of is `dotZ`. -/
theorem dotI8_eq (x : IVec S128x128 8) (w : IVec S128x8192 8) (i : Fin 128) (j : Fin 8192) :
    dotI8 dot_S128x128_S128x8192_S128x8192_1_0_0_1_n_n x w (ix2 i j) = dotZ x w i j := by
  unfold dotI8 dotZ
  rw [← Equiv.sum_comp (contrEquiv1 dot_S128x128_S128x8192_S128x8192_1_0_0_1_n_n 128 rfl rfl).symm]
  refine Finset.sum_congr rfl fun c _ => ?_
  have hc := contrEquiv1_symm_val dot_S128x128_S128x8192_S128x8192_1_0_0_1_n_n 128 rfl rfl c
  have hl : dot_S128x128_S128x8192_S128x8192_1_0_0_1_n_n.lhsIdx (ix2 i j) ((contrEquiv1 _ 128 rfl rfl).symm c) = ix2 i c := by
    funext a; apply Fin.ext
    match a with
    | ⟨0, _⟩ => rfl
    | ⟨1, _⟩ => exact hc
  have hr : dot_S128x128_S128x8192_S128x8192_1_0_0_1_n_n.rhsIdx (ix2 i j) ((contrEquiv1 _ 128 rfl rfl).symm c) = ix2 c j := by
    funext a; apply Fin.ext
    match a with
    | ⟨0, _⟩ => exact hc
    | ⟨1, _⟩ => rfl
  rw [hl, hr]

/-- The unit's product of two blocks into a zero accumulator is the word of the integer product. -/
theorem unit_dot (x : IVec S128x128 8) (w : IVec S128x8192 8) (i : Fin 128) (j : Fin 8192) :
    matmulI8 IntMxuNumerics.v7x dot_S128x128_S128x8192_S128x8192_1_0_0_1_n_n x w (constantI S128x8192 32 0#32) (ix2 i j)
      = BitVec.ofInt 32 (dotZ x w i j) := by
  rw [matmulI8_exact_of_numel _ _ _ _ _ _ rfl (by decide), dotI8_eq]

/-- A block laid as a slot of the landing buffer and taken back is the block. -/
theorem slot_back (x : Vec F S128x128 .i8) :
    shapeCast S128x128 (k0_pay1 (F := F) x) shapeCasts_S1x128x128_S128x128 = x := by
  unfold k0_pay1
  dsimp only
  rw [shapeCast_self, shapeCast_self, shapeCast_shapeCast]

/-- The first product, at an element. -/
theorem first_apply (x : Vec F S128x128 .i8) (w : Vec F S128x8192 .i8) (i : Fin 128) (j : Fin 8192) :
    k0_pay2 (F := F) (k0_pay1 (F := F) x) w (ix2 i j) = BitVec.ofInt 32 (dotZ x w i j) := by
  unfold k0_pay2
  rw [slot_back, shapeCast_self]
  exact unit_dot x w i j

/-- A later step adds its product, at an element. -/
theorem step_apply (acc : IVec S128x8192 32) (x : Vec F S128x128 .i8) (w : Vec F S128x8192 .i8) (i : Fin 128) (j : Fin 8192) :
    k0_pay3 (F := F) acc (k0_pay1 (F := F) x) w (ix2 i j) = acc (ix2 i j) + BitVec.ofInt 32 (dotZ x w i j) := by
  unfold k0_pay3
  rw [slot_back, shapeCast_self]
  exact congrArg (acc (ix2 i j) + ·) (unit_dot x w i j)

/-- The last step adds its product, reads the word as a float and multiplies by the product of the scales. -/
theorem last_apply (acc : IVec S128x8192 32) (x : Vec F S128x128 .i8) (w : Vec F S128x8192 .i8) (s t : Elt F .f32)
    (i : Fin 128) (j : Fin 8192) :
    k0_pay38 (F := F) acc (k0_pay1 (F := F) x) w s t (ix2 i j)
      = FloatOps.mulf (FloatOps.sitofp .f32 (acc (ix2 i j) + BitVec.ofInt 32 (dotZ x w i j))) (Scalar.mulf s t) := by
  unfold k0_pay38
  rw [slot_back, shapeCast_self, ← unit_dot x w i j]
  rfl

/-- The magnitude of a block's product is at most 2²¹. -/
theorem dotZ_le (x : IVec S128x128 8) (w : IVec S128x8192 8) (i : Fin 128) (j : Fin 8192) : |dotZ x w i j| ≤ 2 ^ 21 := by
  have h := (natAbs_dotI8_le dot_S128x128_S128x8192_S128x8192_1_0_0_1_n_n x w (ix2 i j)).trans (absDotI8_le_numel _ _ _ _)
  rw [dotI8_eq, show (dot_S128x128_S128x8192_S128x8192_1_0_0_1_n_n).contr.numel * 2 ^ 14 = 2 ^ 21 by decide] at h
  rw [Int.abs_eq_natAbs]
  exact_mod_cast h

variable (m : (ℓ : Loc nD τ sig) → Buf (Elt F) ℓ)

/-- An entry of row block `b` of device `c`'s operand. -/
theorem xrow_apply (c b : Dev nD) (i k : Fin 128) :
    xrow m c b (ix2 i k) = xstg m c (ix2 (⟨128 * b.val + i.val, by have := b.isLt; have := i.isLt; have e : nD = 32 := rfl; omega⟩ : Fin 4096) k) := by
  unfold xrow
  rw [View.read_apply]
  refine (cast_eq _ _).trans (congrArg (xstg m c) ?_)
  funext a; apply Fin.ext
  refine (Rect.emb_apply _ _ a).trans ?_
  match a with
  | ⟨0, _⟩ => exact congrArg (128 * b.val + ·) (Nat.one_mul _)
  | ⟨1, _⟩ => exact (Nat.zero_add _).trans (Nat.one_mul _)

/-- An entry of row block `b` of device `c`'s weights. -/
theorem wrow_apply (c b : Dev nD) (k : Fin 128) (j : Fin 8192) :
    wrow m c b (ix2 k j) = wstg m c (ix2 (⟨128 * b.val + k.val, by have := b.isLt; have := k.isLt; have e : nD = 32 := rfl; omega⟩ : Fin 4096) j) := by
  unfold wrow
  rw [View.read_apply]
  refine (cast_eq _ _).trans (congrArg (wstg m c) ?_)
  funext a; apply Fin.ext
  refine (Rect.emb_apply _ _ a).trans ?_
  match a with
  | ⟨0, _⟩ => exact congrArg (128 * b.val + ·) (Nat.one_mul _)
  | ⟨1, _⟩ => exact (Nat.zero_add _).trans (Nat.one_mul _)

end Cert.Exch

end
-- ==== Proof.Sum.lean ====
/-
  What the kernel leaves in a device's result: at each element the integer sum, over all devices, of the products of their
  blocks, as a real number, times the product of the two scales.
-/
module

public import proofs.«01_k».proof.Proof.Block

@[expose] public section

noncomputable section

namespace Cert.Exch

open Cert.KernelIdeal Cert.KernelIdeal.Gen
open Idealize.ShloMosaic Idealize.ShloMosaic.TcCoe Idealize.ShloMosaic.ValueIdx
open scoped BigOperators

section AnyValues

variable {F : FTy → Type} [FloatOps F]
variable (m : (ℓ : Loc nD τ sig) → Buf (Elt F) ℓ)

/-- What device `b`'s block contributes to device `d`'s result at a row and a column. -/
def blockZ (d b : Dev nD) (i : Fin 128) (j : Fin 8192) : ℤ := dotZ (xrow m b d) (wrow m d b) i j

/-- The accumulator before step `r` is the word of the sum of the blocks taken so far: a device's own, then those of the
    devices below it, round the ring. -/
theorem accV_apply (d : Dev nD) (i : Fin 128) (j : Fin 8192) : ∀ r : ℕ,
    accV m d r (ix2 i j) = BitVec.ofInt 32 (∑ n ∈ Finset.range (r + 1), blockZ m d (sh d (32 - n)) i j)
  | 0 => by
    rw [Finset.sum_range_one, sh_32 d (32 - 0) (by decide)]
    exact first_apply _ _ i j
  | r + 1 => by
    rw [Finset.sum_range_succ, BitVec.ofInt_add, ← accV_apply d i j r, show 32 - (r + 1) = 31 - r by omega]
    exact step_apply _ _ _ i j

/-- The blocks taken round the ring are those of all devices. -/
theorem ring_sum (d : Dev nD) (f : Dev nD → ℤ) : ∑ n ∈ Finset.range 32, f (sh d (32 - n)) = ∑ b : Dev nD, f b := by
  rw [Finset.sum_range fun n => f (sh d (32 - n))]
  have hinj : Function.Injective fun n : Fin 32 => sh d (32 - n.val) := fun a b h => by
    have h := congrArg Fin.val h
    simp only [sh_val] at h
    apply Fin.ext
    have := d.isLt; have := a.isLt; have := b.isLt; have e : nD = 32 := rfl
    omega
  exact Function.Bijective.sum_comp ((Fintype.bijective_iff_injective_and_card _).2 ⟨hinj, by simp⟩) f

/-- The sum over all devices stays far below 2³¹ in magnitude, so its word is read back as the sum. -/
theorem word_sum (d : Dev nD) (i : Fin 128) (j : Fin 8192) :
    (BitVec.ofInt 32 (∑ b : Dev nD, blockZ m d b i j)).toInt = ∑ b : Dev nD, blockZ m d b i j := by
  have h : |∑ b : Dev nD, blockZ m d b i j| ≤ 32 * 2 ^ 21 := by
    refine (Finset.abs_sum_le_sum_abs _ _).trans ((Finset.sum_le_card_nsmul Finset.univ _ (2 ^ 21) fun b _ => dotZ_le _ _ i j).trans ?_)
    rw [Finset.card_univ, show Fintype.card (Dev nD) = 32 from by simp]
    norm_num
  rw [abs_le] at h
  rw [BitVec.toInt_ofInt]
  apply Int.bmod_eq_of_le <;> omega

end AnyValues

variable (m : (ℓ : Loc nD τ sig) → Buf (Elt Ideal) ℓ)

/-- Device `d`'s first scale, as an extended real; -/
def scaleS (d : Dev nD) : EReal := sstg m d one
/-- its second. -/
def scaleT (d : Dev nD) : EReal := tstg m d one

/-- The result of device `d` at an element, over the extended reals. -/
theorem outV_apply (d : Dev nD) (i : Fin 128) (j : Fin 8192) :
    outV (F := Ideal) m d (ix2 i j)
      = (((∑ b : Dev nD, blockZ m d b i j : ℤ) : ℝ) : EReal) * (scaleS m d * scaleT m d) := by
  unfold outV
  rw [last_apply, accV_apply, ← BitVec.ofInt_add]
  have hs := Finset.sum_range_succ (fun n => blockZ m d (sh d (32 - n)) i j) 31
  rw [show dotZ (xrow m (src d 30) d) (wrow m d (src d 30)) i j = blockZ m d (sh d (32 - 31)) i j from rfl, ← hs,
    ring_sum d fun b => blockZ m d b i j]
  show (((BitVec.ofInt 32 (∑ b : Dev nD, blockZ m d b i j)).toInt : ℝ) : EReal) * _ = _
  rw [word_sum]
  rfl

end Cert.Exch

end
-- ==== Proof.RefValue.lean ====
/-
  What the reference computes: at each element the integer product of the two whole arrays, as a real number, times the
  product of the two scales.
-/
module

public import proofs.«01_k».proof.Proof.Gen.ReferenceIdeal
public import proofs.«01_k».proof.Proof.Gen.ReferenceIdeal.Run
public import Idealize.ShloMosaic.Lib.ValueIdx
public import Idealize.ShloMosaic.Lib.StackMember

@[expose] public section

noncomputable section

namespace Cert.Exch.Ref

open Cert.ReferenceIdeal Cert.ReferenceIdeal.Gen
open Idealize.ShloMosaic Idealize.ShloMosaic.ValueIdx
open scoped BigOperators

/-- The integer product of the whole arrays at a row and a column. -/
def wholeZ (x : IVec S4096x4096 8) (w : IVec S4096x8192 8) (i : Fin 4096) (j : Fin 8192) : ℤ :=
  ∑ k : Fin 4096, (x (ix2 i k)).toInt * (w (ix2 k j)).toInt

/-- The reference's result as a function of its four arguments. -/
def refV (x : IVec S4096x4096 8) (w : IVec S4096x8192 8) (s t : FVec Ideal S1 .f32) : FVec Ideal S4096x8192 .f32 :=
  mulf (Host.dotGeneral dot_S4096x4096_S4096x8192_S4096x8192_1_0_0_1_n_n none (sitofp .f32 (extsi 32 x natLt_8_32)) (sitofp .f32 (extsi 32 w natLt_8_32)))
    (broadcastInDim S4096x8192 ![0, 1] bcast_S1x1_S4096x8192_0_1 (broadcastInDim S1x1 ![1] bcast_S1_S1x1_1 (mulf s t)))

/-- A sum of integers read as an extended real is the sum of the integers so read. -/
theorem coe_sum {ι : Type} (s : Finset ι) (f : ι → ℤ) : (((∑ k ∈ s, f k : ℤ) : ℝ) : EReal) = ∑ k ∈ s, (((f k : ℤ) : ℝ) : EReal) := by
  classical
  induction s using Finset.induction_on with
  | empty => simp
  | insert a s ha ih => rw [Finset.sum_insert ha, Finset.sum_insert ha, ← ih, Int.cast_add, EReal.coe_add]

/-- An 8-bit word widened and read as a float is its integer. -/
theorem widen_apply {s : Shape} (x : IVec s 8) (i : s.Idx) :
    (sitofp .f32 (extsi 32 x natLt_8_32) : FVec Ideal s .f32) i = (((x i).toInt : ℝ) : EReal) := by
  show ((((x i).signExtend 32).toInt : ℝ) : EReal) = _
  rw [BitVec.toInt_signExtend_of_le (by decide)]

/-- The reference's product at an element is the integer product. -/
theorem dot_apply (x : IVec S4096x4096 8) (w : IVec S4096x8192 8) (i : Fin 4096) (j : Fin 8192) :
    Host.dotGeneral (F := Ideal) dot_S4096x4096_S4096x8192_S4096x8192_1_0_0_1_n_n none (sitofp .f32 (extsi 32 x natLt_8_32))
      (sitofp .f32 (extsi 32 w natLt_8_32)) (ix2 i j) = (((wholeZ x w i j : ℤ) : ℝ) : EReal) := by
  refine (StackMember.dotGeneral_plain_apply (m := 4096) (n := 8192) (k := 4096) none _ _ i j).trans ?_
  unfold wholeZ
  rw [coe_sum]
  refine Finset.sum_congr rfl fun k _ => ?_
  rw [widen_apply, widen_apply, Int.cast_mul, EReal.coe_mul]

/-- The one index of a one-element array. -/
theorem idx_one (p q : S1.Idx) : p = q := by
  funext a; apply Fin.ext
  match a with
  | ⟨0, _⟩ =>
    have hp : (p 0).val < 1 := (p 0).isLt
    have hq : (q 0).val < 1 := (q 0).isLt
    show (p 0).val = (q 0).val
    omega

/-- The reference's result at an element, over the extended reals. -/
theorem refV_apply (x : IVec S4096x4096 8) (w : IVec S4096x8192 8) (s t : FVec Ideal S1 .f32) (i : Fin 4096) (j : Fin 8192) (o : S1.Idx) :
    refV x w s t (ix2 i j) = (((wholeZ x w i j : ℤ) : ℝ) : EReal) * ((s o : EReal) * (t o : EReal)) := by
  unfold refV
  refine congrArg₂ (fun a b : EReal => a * b) (dot_apply x w i j) ?_
  exact congrArg (fun p => (s p : EReal) * (t p : EReal)) (idx_one _ o)

end Cert.Exch.Ref

end
-- ==== Proof.Equation.lean ====
/-
  The equation: where each device holds its block of columns of the whole operand, and the whole weights and scales, its
  result is its block of rows of the reference's.
-/
module

public import proofs.«01_k».proof.Proof.Result
public import proofs.«01_k».proof.Proof.Sum
public import proofs.«01_k».proof.Proof.RefValue
public import Idealize.ShloMosaic.Lib.Layout

@[expose] public section

noncomputable section

namespace Cert.Exch

open Cert.KernelIdeal Cert.KernelIdeal.Gen
open Idealize.ShloMosaic Idealize.ShloMosaic.TcCoe Idealize.ShloMosaic.ValueIdx
open scoped BigOperators

/-- A sum over 4096 positions is the sum over 32 blocks of 128. -/
theorem sum_blocks (f : Fin 4096 → ℤ) :
    ∑ p, f p = ∑ b : Fin 32, ∑ k : Fin 128, f ⟨128 * b.val + k.val, by have := b.isLt; have := k.isLt; omega⟩ := by
  rw [← Fintype.sum_prod_type', ← Equiv.sum_comp (finProdFinEquiv (m := 32) (n := 128)) f]
  exact Finset.sum_congr rfl fun q _ => congrArg f (Fin.ext (Nat.add_comm _ _))

variable (m : (ℓ : Loc nD τ sig) → Buf (Elt Ideal) ℓ)
variable (X : IVec Cert.ReferenceIdeal.S4096x4096 8) (W : IVec Cert.ReferenceIdeal.S4096x8192 8)
variable (s t : FVec Ideal Cert.ReferenceIdeal.S1 .f32)

/-- The blocks' products of device `d` sum to the whole product at its rows. -/
theorem blocks_whole
    (hx : ∀ c : Dev nD, xstg m c = Layout.block ⟨2, ![4096, 128]⟩ ⟨2, ![4096, 4096]⟩ 1 32 c X)
    (hw : ∀ c : Dev nD, wstg m c = W) (d : Dev nD) (i : Fin 128) (j : Fin 8192) (R : Fin 4096) (hR : R.val = 128 * d.val + i.val) :
    ∑ b : Dev nD, blockZ m d b i j = Ref.wholeZ X W R j := by
  unfold Ref.wholeZ
  rw [sum_blocks]
  refine Finset.sum_congr rfl fun b _ => ?_
  unfold blockZ dotZ
  refine Finset.sum_congr rfl fun k _ => ?_
  rw [xrow_apply, wrow_apply, hx, hw]
  refine congrArg₂ (fun a c : BitVec 8 => a.toInt * c.toInt) (congrArg X ?_) rfl
  funext a; apply Fin.ext
  match a with
  | ⟨0, _⟩ => exact hR.symm
  | ⟨1, _⟩ => exact congrArg (· + k.val) (Nat.mul_comm _ _)

/-- Device `d`'s result is its block of rows of the reference's. -/
theorem out_block
    (hx : ∀ c : Dev nD, xstg m c = Layout.block ⟨2, ![4096, 128]⟩ ⟨2, ![4096, 4096]⟩ 1 32 c X)
    (hw : ∀ c : Dev nD, wstg m c = W) (hs : ∀ c : Dev nD, sstg m c = s) (ht : ∀ c : Dev nD, tstg m c = t) (d : Dev nD) :
    outV (F := Ideal) m d = Layout.block ⟨2, ![128, 8192]⟩ ⟨2, ![4096, 8192]⟩ 0 32 d (Ref.refV X W s t) := by
  funext p
  obtain ⟨i, j, rfl⟩ : ∃ (i : Fin 128) (j : Fin 8192), p = ix2 i j := ⟨p 0, p 1, eq_ix2 p⟩
  have hlt : 128 * d.val + i.val < 4096 := by have := d.isLt; have := i.isLt; have e : nD = 32 := rfl; omega
  have hq : (by decide : Layout.Tiles ⟨2, ![128, 8192]⟩ ⟨2, ![4096, 8192]⟩ 0 32).idx d (ix2 i j)
      = ix2 (⟨128 * d.val + i.val, hlt⟩ : Fin 4096) j := by
    funext a; apply Fin.ext
    match a with
    | ⟨0, _⟩ => exact congrArg (· + i.val) (Nat.mul_comm _ _)
    | ⟨1, _⟩ => rfl
  rw [Layout.block_apply, hq, Ref.refV_apply X W s t _ j one, outV_apply,
    blocks_whole m X W hx hw d i j ⟨128 * d.val + i.val, hlt⟩ rfl]
  unfold scaleS scaleT
  rw [hs, ht]

end Cert.Exch

end
-- ==== Proof.lean ====
/-
  The claims about the all-to-all fused with a quantised product, on 32 devices: the frames of the kernel, of its ideal
  reading and of the reference, that the ideal reading keeps the kernel's text, and that kernel and reference compute
  the same function over the extended reals.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Result
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: it keeps its arguments, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute the same function over the extended reals: each device ends with its block of rows of the
    reference's result, whatever the operands' words and the scales. -/
theorem same_function : Cert.algebraic_KernelIdeal_ReferenceIdeal := by
  intro m ρ m' ρ' _ h
  refine ⟨Cert.Exch.Ref.refV (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · refine (θ_run Cert.KernelIdeal.defs _ _).mono (fun r hr c => ⟨?_, Cert.Exch.args_kept m ρ hr.1 c⟩) (Cert.Exch.run_main (F := Ideal) m ρ)
    refine ((hr.1 c (4 : Fin 5)).trans (Cert.Exch.finalA_out m ρ c)).trans ?_
    exact Cert.Exch.out_block m _ _ _ _ (fun e => (Cert.Exch.xstg_eq m e).trans (h e).1)
      (fun e => (Cert.Exch.wstg_eq m e).trans (h e).2.1) (fun e => (Cert.Exch.sstg_eq m e).trans (h e).2.2.1)
      (fun e => (Cert.Exch.tstg_eq m e).trans (h e).2.2.2) c
  · exact (θ_run Cert.ReferenceIdeal.defs _ _).mono (fun _ hr => hr 0) (Cert.ReferenceIdeal.Value.run (F := Ideal) m' ρ')

/-- The certificate's claims. -/
theorem claim : Cert.Claim := ⟨Cert.Kernel.Gen.facts, Cert.KernelIdeal.Gen.facts, Cert.ReferenceIdeal.Gen.facts,
  Cert.Exch.frame_kernel, Cert.Exch.frame_ideal, frame_reference, trivial, same_function⟩

end Cert.Proof

end
